-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_finite_ReferenceIdeal.lean ====
abbrev S2048x16384 : Shape := ⟨2, ![2048, 16384]⟩
abbrev S_ : Shape := ⟨0, ![]⟩

class Facts : Prop where
  bcast_S_S2048x16384 : S_.BroadcastsInDim S2048x16384 (![] : Fin 0 → Fin S2048x16384.rank)

variable [Facts]

def fn {F : FTy → Type} [FloatOps F] (main_arg0 : FVec F S2048x16384 .f32) : IVec S2048x16384 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  main_v2
-- ==== Kernel.lean ====
abbrev S2048x1024 : Shape := ⟨2, ![2048, 1024]⟩
abbrev S8x128 : Shape := ⟨2, ![8, 128]⟩
abbrev S16x8x128 : Shape := ⟨3, ![16, 8, 128]⟩
abbrev S2 : Shape := ⟨1, ![2]⟩
abbrev S16 : Shape := ⟨1, ![16]⟩
abbrev S_ : Shape := ⟨0, ![]⟩
abbrev S1024x1024 : Shape := ⟨2, ![1024, 1024]⟩
abbrev S8x128x1024 : Shape := ⟨3, ![8, 128, 1024]⟩
abbrev S1x8x128 : Shape := ⟨3, ![1, 8, 128]⟩
abbrev S1 : Shape := ⟨1, ![1]⟩
abbrev S8x128x1 : Shape := ⟨3, ![8, 128, 1]⟩

abbrev nBuf : Space → Nat
  | .hbm => 2
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S2048x1024, .f32⟩
  | .local _ .vmem, ⟨1, _⟩ => ⟨S2048x1024, .bf16⟩
  | .local _ .vmem, ⟨2, _⟩ => ⟨S8x128, .f32⟩
  | .local _ .vmem, ⟨3, _⟩ => ⟨S8x128, .f32⟩
  | .local _ .vmem, ⟨4, _⟩ => ⟨S16x8x128, .f32⟩
  | .local _ .vmem, ⟨5, _⟩ => ⟨S16x8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v213 : Index := Scalar.indexCast v2
  let c0_140 : Index := 0#32
  let c0_141 : Index := 0#32
  ![v213.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_153 : BitVec 32 := 0#32
  let c0_i32_154 : BitVec 32 := 0#32
  ![v2.toNat, 0, 0]
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_143 : BitVec 32 := 1#32
  let v217 : BitVec 32 := Scalar.addi v2 c1_i32_143
  let c16_i32_144 : BitVec 32 := 16#32
  let c0_i32_145 : BitVec 32 := 0#32
  let v218 : BitVec 1 := Scalar.cmpi .eq c16_i32_144 c0_i32_145
  let c1_i32_146 : BitVec 32 := 1#32
  let v219 : BitVec 32 := Scalar.select v218 c1_i32_146 c16_i32_144
  let v220 : BitVec 32 := Scalar.remsi v217 v219
  let c0_i32_148 : BitVec 32 := 0#32
  let v222 : BitVec 1 := Scalar.cmpi .slt v220 c0_i32_148
  let c0_i32_149 : BitVec 32 := 0#32
  let v223 : BitVec 1 := Scalar.cmpi .slt v219 c0_i32_149
  let v224 : BitVec 1 := Scalar.xori v222 v223
  let c0_i32_147 : BitVec 32 := 0#32
  let v221 : BitVec 1 := Scalar.cmpi .ne v220 c0_i32_147
  let v225 : BitVec 1 := Scalar.andi v224 v221
  let v226 : BitVec 32 := Scalar.addi v220 v219
  let v227 : BitVec 32 := Scalar.select v225 v226 v220
  let c1_i32_151 : BitVec 32 := 1#32
  let v228 : BitVec 32 := Scalar.muli v227 c1_i32_151
  let v229 : BitVec 32 := Scalar.addi c0_i32_152 v228
  v229.toNat
def k0_dev17 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_155 : BitVec 32 := 2#32
  let v236 : BitVec 32 := Scalar.addi v2 c2_i32_155
  let c16_i32_156 : BitVec 32 := 16#32
  let c0_i32_157 : BitVec 32 := 0#32
  let v237 : BitVec 1 := Scalar.cmpi .eq c16_i32_156 c0_i32_157
  let c1_i32_158 : BitVec 32 := 1#32
  let v238 : BitVec 32 := Scalar.select v237 c1_i32_158 c16_i32_156
  let v239 : BitVec 32 := Scalar.remsi v236 v238
  let c0_i32_160 : BitVec 32 := 0#32
  let v241 : BitVec 1 := Scalar.cmpi .slt v239 c0_i32_160
  let c0_i32_161 : BitVec 32 := 0#32
  let v242 : BitVec 1 := Scalar.cmpi .slt v238 c0_i32_161
  let v243 : BitVec 1 := Scalar.xori v241 v242
  let c0_i32_159 : BitVec 32 := 0#32
  let v240 : BitVec 1 := Scalar.cmpi .ne v239 c0_i32_159
  let v244 : BitVec 1 := Scalar.andi v243 v240
  let v245 : BitVec 32 := Scalar.addi v239 v238
  let v246 : BitVec 32 := Scalar.select v244 v245 v239
  let c1_i32_163 : BitVec 32 := 1#32
  let v247 : BitVec 32 := Scalar.muli v246 c1_i32_163
  let v248 : BitVec 32 := Scalar.addi c0_i32_164 v247
  v248.toNat
def k0_dev18 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_167 : BitVec 32 := 3#32
  let v255 : BitVec 32 := Scalar.addi v2 c3_i32_167
  let c16_i32_168 : BitVec 32 := 16#32
  let c0_i32_169 : BitVec 32 := 0#32
  let v256 : BitVec 1 := Scalar.cmpi .eq c16_i32_168 c0_i32_169
  let c1_i32_170 : BitVec 32 := 1#32
  let v257 : BitVec 32 := Scalar.select v256 c1_i32_170 c16_i32_168
  let v258 : BitVec 32 := Scalar.remsi v255 v257
  let c0_i32_172 : BitVec 32 := 0#32
  let v260 : BitVec 1 := Scalar.cmpi .slt v258 c0_i32_172
  let c0_i32_173 : BitVec 32 := 0#32
  let v261 : BitVec 1 := Scalar.cmpi .slt v257 c0_i32_173
  let v262 : BitVec 1 := Scalar.xori v260 v261
  let c0_i32_171 : BitVec 32 := 0#32
  let v259 : BitVec 1 := Scalar.cmpi .ne v258 c0_i32_171
  let v263 : BitVec 1 := Scalar.andi v262 v259
  let v264 : BitVec 32 := Scalar.addi v258 v257
  let v265 : BitVec 32 := Scalar.select v263 v264 v258
  let c1_i32_175 : BitVec 32 := 1#32
  let v266 : BitVec 32 := Scalar.muli v265 c1_i32_175
  let v267 : BitVec 32 := Scalar.addi c0_i32_176 v266
  v267.toNat
def k0_dev19 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_179 : BitVec 32 := 4#32
  let v274 : BitVec 32 := Scalar.addi v2 c4_i32_179
  let c16_i32_180 : BitVec 32 := 16#32
  let c0_i32_181 : BitVec 32 := 0#32
  let v275 : BitVec 1 := Scalar.cmpi .eq c16_i32_180 c0_i32_181
  let c1_i32_182 : BitVec 32 := 1#32
  let v276 : BitVec 32 := Scalar.select v275 c1_i32_182 c16_i32_180
  let v277 : BitVec 32 := Scalar.remsi v274 v276
  let c0_i32_184 : BitVec 32 := 0#32
  let v279 : BitVec 1 := Scalar.cmpi .slt v277 c0_i32_184
  let c0_i32_185 : BitVec 32 := 0#32
  let v280 : BitVec 1 := Scalar.cmpi .slt v276 c0_i32_185
  let v281 : BitVec 1 := Scalar.xori v279 v280
  let c0_i32_183 : BitVec 32 := 0#32
  let v278 : BitVec 1 := Scalar.cmpi .ne v277 c0_i32_183
  let v282 : BitVec 1 := Scalar.andi v281 v278
  let v283 : BitVec 32 := Scalar.addi v277 v276
  let v284 : BitVec 32 := Scalar.select v282 v283 v277
  let c1_i32_187 : BitVec 32 := 1#32
  let v285 : BitVec 32 := Scalar.muli v284 c1_i32_187
  let v286 : BitVec 32 := Scalar.addi c0_i32_188 v285
  v286.toNat
def k0_dev20 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_191 : BitVec 32 := 5#32
  let v293 : BitVec 32 := Scalar.addi v2 c5_i32_191
  let c16_i32_192 : BitVec 32 := 16#32
  let c0_i32_193 : BitVec 32 := 0#32
  let v294 : BitVec 1 := Scalar.cmpi .eq c16_i32_192 c0_i32_193
  let c1_i32_194 : BitVec 32 := 1#32
  let v295 : BitVec 32 := Scalar.select v294 c1_i32_194 c16_i32_192
  let v296 : BitVec 32 := Scalar.remsi v293 v295
  let c0_i32_196 : BitVec 32 := 0#32
  let v298 : BitVec 1 := Scalar.cmpi .slt v296 c0_i32_196
  let c0_i32_197 : BitVec 32 := 0#32
  let v299 : BitVec 1 := Scalar.cmpi .slt v295 c0_i32_197
  let v300 : BitVec 1 := Scalar.xori v298 v299
  let c0_i32_195 : BitVec 32 := 0#32
  let v297 : BitVec 1 := Scalar.cmpi .ne v296 c0_i32_195
  let v301 : BitVec 1 := Scalar.andi v300 v297
  let v302 : BitVec 32 := Scalar.addi v296 v295
  let v303 : BitVec 32 := Scalar.select v301 v302 v296
  let c1_i32_199 : BitVec 32 := 1#32
  let v304 : BitVec 32 := Scalar.muli v303 c1_i32_199
  let v305 : BitVec 32 := Scalar.addi c0_i32_200 v304
  v305.toNat
def k0_dev21 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_203 : BitVec 32 := 6#32
  let v312 : BitVec 32 := Scalar.addi v2 c6_i32_203
  let c16_i32_204 : BitVec 32 := 16#32
  let c0_i32_205 : BitVec 32 := 0#32
  let v313 : BitVec 1 := Scalar.cmpi .eq c16_i32_204 c0_i32_205
  let c1_i32_206 : BitVec 32 := 1#32
  let v314 : BitVec 32 := Scalar.select v313 c1_i32_206 c16_i32_204
  let v315 : BitVec 32 := Scalar.remsi v312 v314
  let c0_i32_208 : BitVec 32 := 0#32
  let v317 : BitVec 1 := Scalar.cmpi .slt v315 c0_i32_208
  let c0_i32_209 : BitVec 32 := 0#32
  let v318 : BitVec 1 := Scalar.cmpi .slt v314 c0_i32_209
  let v319 : BitVec 1 := Scalar.xori v317 v318
  let c0_i32_207 : BitVec 32 := 0#32
  let v316 : BitVec 1 := Scalar.cmpi .ne v315 c0_i32_207
  let v320 : BitVec 1 := Scalar.andi v319 v316
  let v321 : BitVec 32 := Scalar.addi v315 v314
  let v322 : BitVec 32 := Scalar.select v320 v321 v315
  let c1_i32_211 : BitVec 32 := 1#32
  let v323 : BitVec 32 := Scalar.muli v322 c1_i32_211
  let v324 : BitVec 32 := Scalar.addi c0_i32_212 v323
  v324.toNat
def k0_dev22 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_215 : BitVec 32 := 7#32
  let v331 : BitVec 32 := Scalar.addi v2 c7_i32_215
  let c16_i32_216 : BitVec 32 := 16#32
  let c0_i32_217 : BitVec 32 := 0#32
  let v332 : BitVec 1 := Scalar.cmpi .eq c16_i32_216 c0_i32_217
  let c1_i32_218 : BitVec 32 := 1#32
  let v333 : BitVec 32 := Scalar.select v332 c1_i32_218 c16_i32_216
  let v334 : BitVec 32 := Scalar.remsi v331 v333
  let c0_i32_220 : BitVec 32 := 0#32
  let v336 : BitVec 1 := Scalar.cmpi .slt v334 c0_i32_220
  let c0_i32_221 : BitVec 32 := 0#32
  let v337 : BitVec 1 := Scalar.cmpi .slt v333 c0_i32_221
  let v338 : BitVec 1 := Scalar.xori v336 v337
  let c0_i32_219 : BitVec 32 := 0#32
  let v335 : BitVec 1 := Scalar.cmpi .ne v334 c0_i32_219
  let v339 : BitVec 1 := Scalar.andi v338 v335
  let v340 : BitVec 32 := Scalar.addi v334 v333
  let v341 : BitVec 32 := Scalar.select v339 v340 v334
  let c1_i32_223 : BitVec 32 := 1#32
  let v342 : BitVec 32 := Scalar.muli v341 c1_i32_223
  let v343 : BitVec 32 := Scalar.addi c0_i32_224 v342
  v343.toNat
def k0_dev23 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_227 : BitVec 32 := 8#32
  let v350 : BitVec 32 := Scalar.addi v2 c8_i32_227
  let c16_i32_228 : BitVec 32 := 16#32
  let c0_i32_229 : BitVec 32 := 0#32
  let v351 : BitVec 1 := Scalar.cmpi .eq c16_i32_228 c0_i32_229
  let c1_i32_230 : BitVec 32 := 1#32
  let v352 : BitVec 32 := Scalar.select v351 c1_i32_230 c16_i32_228
  let v353 : BitVec 32 := Scalar.remsi v350 v352
  let c0_i32_232 : BitVec 32 := 0#32
  let v355 : BitVec 1 := Scalar.cmpi .slt v353 c0_i32_232
  let c0_i32_233 : BitVec 32 := 0#32
  let v356 : BitVec 1 := Scalar.cmpi .slt v352 c0_i32_233
  let v357 : BitVec 1 := Scalar.xori v355 v356
  let c0_i32_231 : BitVec 32 := 0#32
  let v354 : BitVec 1 := Scalar.cmpi .ne v353 c0_i32_231
  let v358 : BitVec 1 := Scalar.andi v357 v354
  let v359 : BitVec 32 := Scalar.addi v353 v352
  let v360 : BitVec 32 := Scalar.select v358 v359 v353
  let c1_i32_235 : BitVec 32 := 1#32
  let v361 : BitVec 32 := Scalar.muli v360 c1_i32_235
  let v362 : BitVec 32 := Scalar.addi c0_i32_236 v361
  v362.toNat
def k0_dev24 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_239 : BitVec 32 := 9#32
  let v369 : BitVec 32 := Scalar.addi v2 c9_i32_239
  let c16_i32_240 : BitVec 32 := 16#32
  let c0_i32_241 : BitVec 32 := 0#32
  let v370 : BitVec 1 := Scalar.cmpi .eq c16_i32_240 c0_i32_241
  let c1_i32_242 : BitVec 32 := 1#32
  let v371 : BitVec 32 := Scalar.select v370 c1_i32_242 c16_i32_240
  let v372 : BitVec 32 := Scalar.remsi v369 v371
  let c0_i32_244 : BitVec 32 := 0#32
  let v374 : BitVec 1 := Scalar.cmpi .slt v372 c0_i32_244
  let c0_i32_245 : BitVec 32 := 0#32
  let v375 : BitVec 1 := Scalar.cmpi .slt v371 c0_i32_245
  let v376 : BitVec 1 := Scalar.xori v374 v375
  let c0_i32_243 : BitVec 32 := 0#32
  let v373 : BitVec 1 := Scalar.cmpi .ne v372 c0_i32_243
  let v377 : BitVec 1 := Scalar.andi v376 v373
  let v378 : BitVec 32 := Scalar.addi v372 v371
  let v379 : BitVec 32 := Scalar.select v377 v378 v372
  let c1_i32_247 : BitVec 32 := 1#32
  let v380 : BitVec 32 := Scalar.muli v379 c1_i32_247
  let v381 : BitVec 32 := Scalar.addi c0_i32_248 v380
  v381.toNat
def k0_dev25 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_251 : BitVec 32 := 10#32
  let v388 : BitVec 32 := Scalar.addi v2 c10_i32_251
  let c16_i32_252 : BitVec 32 := 16#32
  let c0_i32_253 : BitVec 32 := 0#32
  let v389 : BitVec 1 := Scalar.cmpi .eq c16_i32_252 c0_i32_253
  let c1_i32_254 : BitVec 32 := 1#32
  let v390 : BitVec 32 := Scalar.select v389 c1_i32_254 c16_i32_252
  let v391 : BitVec 32 := Scalar.remsi v388 v390
  let c0_i32_256 : BitVec 32 := 0#32
  let v393 : BitVec 1 := Scalar.cmpi .slt v391 c0_i32_256
  let c0_i32_257 : BitVec 32 := 0#32
  let v394 : BitVec 1 := Scalar.cmpi .slt v390 c0_i32_257
  let v395 : BitVec 1 := Scalar.xori v393 v394
  let c0_i32_255 : BitVec 32 := 0#32
  let v392 : BitVec 1 := Scalar.cmpi .ne v391 c0_i32_255
  let v396 : BitVec 1 := Scalar.andi v395 v392
  let v397 : BitVec 32 := Scalar.addi v391 v390
  let v398 : BitVec 32 := Scalar.select v396 v397 v391
  let c1_i32_259 : BitVec 32 := 1#32
  let v399 : BitVec 32 := Scalar.muli v398 c1_i32_259
  let v400 : BitVec 32 := Scalar.addi c0_i32_260 v399
  v400.toNat
def k0_dev26 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_263 : BitVec 32 := 11#32
  let v407 : BitVec 32 := Scalar.addi v2 c11_i32_263
  let c16_i32_264 : BitVec 32 := 16#32
  let c0_i32_265 : BitVec 32 := 0#32
  let v408 : BitVec 1 := Scalar.cmpi .eq c16_i32_264 c0_i32_265
  let c1_i32_266 : BitVec 32 := 1#32
  let v409 : BitVec 32 := Scalar.select v408 c1_i32_266 c16_i32_264
  let v410 : BitVec 32 := Scalar.remsi v407 v409
  let c0_i32_268 : BitVec 32 := 0#32
  let v412 : BitVec 1 := Scalar.cmpi .slt v410 c0_i32_268
  let c0_i32_269 : BitVec 32 := 0#32
  let v413 : BitVec 1 := Scalar.cmpi .slt v409 c0_i32_269
  let v414 : BitVec 1 := Scalar.xori v412 v413
  let c0_i32_267 : BitVec 32 := 0#32
  let v411 : BitVec 1 := Scalar.cmpi .ne v410 c0_i32_267
  let v415 : BitVec 1 := Scalar.andi v414 v411
  let v416 : BitVec 32 := Scalar.addi v410 v409
  let v417 : BitVec 32 := Scalar.select v415 v416 v410
  let c1_i32_271 : BitVec 32 := 1#32
  let v418 : BitVec 32 := Scalar.muli v417 c1_i32_271
  let v419 : BitVec 32 := Scalar.addi c0_i32_272 v418
  v419.toNat
def k0_dev27 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_275 : BitVec 32 := 12#32
  let v426 : BitVec 32 := Scalar.addi v2 c12_i32_275
  let c16_i32_276 : BitVec 32 := 16#32
  let c0_i32_277 : BitVec 32 := 0#32
  let v427 : BitVec 1 := Scalar.cmpi .eq c16_i32_276 c0_i32_277
  let c1_i32_278 : BitVec 32 := 1#32
  let v428 : BitVec 32 := Scalar.select v427 c1_i32_278 c16_i32_276
  let v429 : BitVec 32 := Scalar.remsi v426 v428
  let c0_i32_280 : BitVec 32 := 0#32
  let v431 : BitVec 1 := Scalar.cmpi .slt v429 c0_i32_280
  let c0_i32_281 : BitVec 32 := 0#32
  let v432 : BitVec 1 := Scalar.cmpi .slt v428 c0_i32_281
  let v433 : BitVec 1 := Scalar.xori v431 v432
  let c0_i32_279 : BitVec 32 := 0#32
  let v430 : BitVec 1 := Scalar.cmpi .ne v429 c0_i32_279
  let v434 : BitVec 1 := Scalar.andi v433 v430
  let v435 : BitVec 32 := Scalar.addi v429 v428
  let v436 : BitVec 32 := Scalar.select v434 v435 v429
  let c1_i32_283 : BitVec 32 := 1#32
  let v437 : BitVec 32 := Scalar.muli v436 c1_i32_283
  let v438 : BitVec 32 := Scalar.addi c0_i32_284 v437
  v438.toNat
def k0_dev28 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_287 : BitVec 32 := 13#32
  let v445 : BitVec 32 := Scalar.addi v2 c13_i32_287
  let c16_i32_288 : BitVec 32 := 16#32
  let c0_i32_289 : BitVec 32 := 0#32
  let v446 : BitVec 1 := Scalar.cmpi .eq c16_i32_288 c0_i32_289
  let c1_i32_290 : BitVec 32 := 1#32
  let v447 : BitVec 32 := Scalar.select v446 c1_i32_290 c16_i32_288
  let v448 : BitVec 32 := Scalar.remsi v445 v447
  let c0_i32_292 : BitVec 32 := 0#32
  let v450 : BitVec 1 := Scalar.cmpi .slt v448 c0_i32_292
  let c0_i32_293 : BitVec 32 := 0#32
  let v451 : BitVec 1 := Scalar.cmpi .slt v447 c0_i32_293
  let v452 : BitVec 1 := Scalar.xori v450 v451
  let c0_i32_291 : BitVec 32 := 0#32
  let v449 : BitVec 1 := Scalar.cmpi .ne v448 c0_i32_291
  let v453 : BitVec 1 := Scalar.andi v452 v449
  let v454 : BitVec 32 := Scalar.addi v448 v447
  let v455 : BitVec 32 := Scalar.select v453 v454 v448
  let c1_i32_295 : BitVec 32 := 1#32
  let v456 : BitVec 32 := Scalar.muli v455 c1_i32_295
  let v457 : BitVec 32 := Scalar.addi c0_i32_296 v456
  v457.toNat
def k0_dev29 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_299 : BitVec 32 := 14#32
  let v464 : BitVec 32 := Scalar.addi v2 c14_i32_299
  let c16_i32_300 : BitVec 32 := 16#32
  let c0_i32_301 : BitVec 32 := 0#32
  let v465 : BitVec 1 := Scalar.cmpi .eq c16_i32_300 c0_i32_301
  let c1_i32_302 : BitVec 32 := 1#32
  let v466 : BitVec 32 := Scalar.select v465 c1_i32_302 c16_i32_300
  let v467 : BitVec 32 := Scalar.remsi v464 v466
  let c0_i32_304 : BitVec 32 := 0#32
  let v469 : BitVec 1 := Scalar.cmpi .slt v467 c0_i32_304
  let c0_i32_305 : BitVec 32 := 0#32
  let v470 : BitVec 1 := Scalar.cmpi .slt v466 c0_i32_305
  let v471 : BitVec 1 := Scalar.xori v469 v470
  let c0_i32_303 : BitVec 32 := 0#32
  let v468 : BitVec 1 := Scalar.cmpi .ne v467 c0_i32_303
  let v472 : BitVec 1 := Scalar.andi v471 v468
  let v473 : BitVec 32 := Scalar.addi v467 v466
  let v474 : BitVec 32 := Scalar.select v472 v473 v467
  let c1_i32_307 : BitVec 32 := 1#32
  let v475 : BitVec 32 := Scalar.muli v474 c1_i32_307
  let v476 : BitVec 32 := Scalar.addi c0_i32_308 v475
  v476.toNat
def k0_dev30 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_311 : BitVec 32 := 15#32
  let v483 : BitVec 32 := Scalar.addi v2 c15_i32_311
  let c16_i32_312 : BitVec 32 := 16#32
  let c0_i32_313 : BitVec 32 := 0#32
  let v484 : BitVec 1 := Scalar.cmpi .eq c16_i32_312 c0_i32_313
  let c1_i32_314 : BitVec 32 := 1#32
  let v485 : BitVec 32 := Scalar.select v484 c1_i32_314 c16_i32_312
  let v486 : BitVec 32 := Scalar.remsi v483 v485
  let c0_i32_316 : BitVec 32 := 0#32
  let v488 : BitVec 1 := Scalar.cmpi .slt v486 c0_i32_316
  let c0_i32_317 : BitVec 32 := 0#32
  let v489 : BitVec 1 := Scalar.cmpi .slt v485 c0_i32_317
  let v490 : BitVec 1 := Scalar.xori v488 v489
  let c0_i32_315 : BitVec 32 := 0#32
  let v487 : BitVec 1 := Scalar.cmpi .ne v486 c0_i32_315
  let v491 : BitVec 1 := Scalar.andi v490 v487
  let v492 : BitVec 32 := Scalar.addi v486 v485
  let v493 : BitVec 32 := Scalar.select v491 v492 v486
  let c1_i32_319 : BitVec 32 := 1#32
  let v494 : BitVec 32 := Scalar.muli v493 c1_i32_319
  let v495 : BitVec 32 := Scalar.addi c0_i32_320 v494
  v495.toNat
def k0_dev31 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_331 : BitVec 32 := 1#32
  let v520 : BitVec 32 := Scalar.addi v2 c1_i32_331
  let c16_i32_332 : BitVec 32 := 16#32
  let c0_i32_333 : BitVec 32 := 0#32
  let v521 : BitVec 1 := Scalar.cmpi .eq c16_i32_332 c0_i32_333
  let c1_i32_334 : BitVec 32 := 1#32
  let v522 : BitVec 32 := Scalar.select v521 c1_i32_334 c16_i32_332
  let v523 : BitVec 32 := Scalar.remsi v520 v522
  let c0_i32_336 : BitVec 32 := 0#32
  let v525 : BitVec 1 := Scalar.cmpi .slt v523 c0_i32_336
  let c0_i32_337 : BitVec 32 := 0#32
  let v526 : BitVec 1 := Scalar.cmpi .slt v522 c0_i32_337
  let v527 : BitVec 1 := Scalar.xori v525 v526
  let c0_i32_335 : BitVec 32 := 0#32
  let v524 : BitVec 1 := Scalar.cmpi .ne v523 c0_i32_335
  let v528 : BitVec 1 := Scalar.andi v527 v524
  let v529 : BitVec 32 := Scalar.addi v523 v522
  let v530 : BitVec 32 := Scalar.select v528 v529 v523
  let c1_i32_339 : BitVec 32 := 1#32
  let v531 : BitVec 32 := Scalar.muli v530 c1_i32_339
  let v532 : BitVec 32 := Scalar.addi c0_i32_340 v531
  v532.toNat
def k0_dev32 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_343 : BitVec 32 := 2#32
  let v539 : BitVec 32 := Scalar.addi v2 c2_i32_343
  let c16_i32_344 : BitVec 32 := 16#32
  let c0_i32_345 : BitVec 32 := 0#32
  let v540 : BitVec 1 := Scalar.cmpi .eq c16_i32_344 c0_i32_345
  let c1_i32_346 : BitVec 32 := 1#32
  let v541 : BitVec 32 := Scalar.select v540 c1_i32_346 c16_i32_344
  let v542 : BitVec 32 := Scalar.remsi v539 v541
  let c0_i32_348 : BitVec 32 := 0#32
  let v544 : BitVec 1 := Scalar.cmpi .slt v542 c0_i32_348
  let c0_i32_349 : BitVec 32 := 0#32
  let v545 : BitVec 1 := Scalar.cmpi .slt v541 c0_i32_349
  let v546 : BitVec 1 := Scalar.xori v544 v545
  let c0_i32_347 : BitVec 32 := 0#32
  let v543 : BitVec 1 := Scalar.cmpi .ne v542 c0_i32_347
  let v547 : BitVec 1 := Scalar.andi v546 v543
  let v548 : BitVec 32 := Scalar.addi v542 v541
  let v549 : BitVec 32 := Scalar.select v547 v548 v542
  let c1_i32_351 : BitVec 32 := 1#32
  let v550 : BitVec 32 := Scalar.muli v549 c1_i32_351
  let v551 : BitVec 32 := Scalar.addi c0_i32_352 v550
  v551.toNat
def k0_dev33 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_355 : BitVec 32 := 3#32
  let v558 : BitVec 32 := Scalar.addi v2 c3_i32_355
  let c16_i32_356 : BitVec 32 := 16#32
  let c0_i32_357 : BitVec 32 := 0#32
  let v559 : BitVec 1 := Scalar.cmpi .eq c16_i32_356 c0_i32_357
  let c1_i32_358 : BitVec 32 := 1#32
  let v560 : BitVec 32 := Scalar.select v559 c1_i32_358 c16_i32_356
  let v561 : BitVec 32 := Scalar.remsi v558 v560
  let c0_i32_360 : BitVec 32 := 0#32
  let v563 : BitVec 1 := Scalar.cmpi .slt v561 c0_i32_360
  let c0_i32_361 : BitVec 32 := 0#32
  let v564 : BitVec 1 := Scalar.cmpi .slt v560 c0_i32_361
  let v565 : BitVec 1 := Scalar.xori v563 v564
  let c0_i32_359 : BitVec 32 := 0#32
  let v562 : BitVec 1 := Scalar.cmpi .ne v561 c0_i32_359
  let v566 : BitVec 1 := Scalar.andi v565 v562
  let v567 : BitVec 32 := Scalar.addi v561 v560
  let v568 : BitVec 32 := Scalar.select v566 v567 v561
  let c1_i32_363 : BitVec 32 := 1#32
  let v569 : BitVec 32 := Scalar.muli v568 c1_i32_363
  let v570 : BitVec 32 := Scalar.addi c0_i32_364 v569
  v570.toNat
def k0_dev34 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_367 : BitVec 32 := 4#32
  let v577 : BitVec 32 := Scalar.addi v2 c4_i32_367
  let c16_i32_368 : BitVec 32 := 16#32
  let c0_i32_369 : BitVec 32 := 0#32
  let v578 : BitVec 1 := Scalar.cmpi .eq c16_i32_368 c0_i32_369
  let c1_i32_370 : BitVec 32 := 1#32
  let v579 : BitVec 32 := Scalar.select v578 c1_i32_370 c16_i32_368
  let v580 : BitVec 32 := Scalar.remsi v577 v579
  let c0_i32_372 : BitVec 32 := 0#32
  let v582 : BitVec 1 := Scalar.cmpi .slt v580 c0_i32_372
  let c0_i32_373 : BitVec 32 := 0#32
  let v583 : BitVec 1 := Scalar.cmpi .slt v579 c0_i32_373
  let v584 : BitVec 1 := Scalar.xori v582 v583
  let c0_i32_371 : BitVec 32 := 0#32
  let v581 : BitVec 1 := Scalar.cmpi .ne v580 c0_i32_371
  let v585 : BitVec 1 := Scalar.andi v584 v581
  let v586 : BitVec 32 := Scalar.addi v580 v579
  let v587 : BitVec 32 := Scalar.select v585 v586 v580
  let c1_i32_375 : BitVec 32 := 1#32
  let v588 : BitVec 32 := Scalar.muli v587 c1_i32_375
  let v589 : BitVec 32 := Scalar.addi c0_i32_376 v588
  v589.toNat
def k0_dev35 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_379 : BitVec 32 := 5#32
  let v596 : BitVec 32 := Scalar.addi v2 c5_i32_379
  let c16_i32_380 : BitVec 32 := 16#32
  let c0_i32_381 : BitVec 32 := 0#32
  let v597 : BitVec 1 := Scalar.cmpi .eq c16_i32_380 c0_i32_381
  let c1_i32_382 : BitVec 32 := 1#32
  let v598 : BitVec 32 := Scalar.select v597 c1_i32_382 c16_i32_380
  let v599 : BitVec 32 := Scalar.remsi v596 v598
  let c0_i32_384 : BitVec 32 := 0#32
  let v601 : BitVec 1 := Scalar.cmpi .slt v599 c0_i32_384
  let c0_i32_385 : BitVec 32 := 0#32
  let v602 : BitVec 1 := Scalar.cmpi .slt v598 c0_i32_385
  let v603 : BitVec 1 := Scalar.xori v601 v602
  let c0_i32_383 : BitVec 32 := 0#32
  let v600 : BitVec 1 := Scalar.cmpi .ne v599 c0_i32_383
  let v604 : BitVec 1 := Scalar.andi v603 v600
  let v605 : BitVec 32 := Scalar.addi v599 v598
  let v606 : BitVec 32 := Scalar.select v604 v605 v599
  let c1_i32_387 : BitVec 32 := 1#32
  let v607 : BitVec 32 := Scalar.muli v606 c1_i32_387
  let v608 : BitVec 32 := Scalar.addi c0_i32_388 v607
  v608.toNat
def k0_dev36 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_391 : BitVec 32 := 6#32
  let v615 : BitVec 32 := Scalar.addi v2 c6_i32_391
  let c16_i32_392 : BitVec 32 := 16#32
  let c0_i32_393 : BitVec 32 := 0#32
  let v616 : BitVec 1 := Scalar.cmpi .eq c16_i32_392 c0_i32_393
  let c1_i32_394 : BitVec 32 := 1#32
  let v617 : BitVec 32 := Scalar.select v616 c1_i32_394 c16_i32_392
  let v618 : BitVec 32 := Scalar.remsi v615 v617
  let c0_i32_396 : BitVec 32 := 0#32
  let v620 : BitVec 1 := Scalar.cmpi .slt v618 c0_i32_396
  let c0_i32_397 : BitVec 32 := 0#32
  let v621 : BitVec 1 := Scalar.cmpi .slt v617 c0_i32_397
  let v622 : BitVec 1 := Scalar.xori v620 v621
  let c0_i32_395 : BitVec 32 := 0#32
  let v619 : BitVec 1 := Scalar.cmpi .ne v618 c0_i32_395
  let v623 : BitVec 1 := Scalar.andi v622 v619
  let v624 : BitVec 32 := Scalar.addi v618 v617
  let v625 : BitVec 32 := Scalar.select v623 v624 v618
  let c1_i32_399 : BitVec 32 := 1#32
  let v626 : BitVec 32 := Scalar.muli v625 c1_i32_399
  let v627 : BitVec 32 := Scalar.addi c0_i32_400 v626
  v627.toNat
def k0_dev37 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_403 : BitVec 32 := 7#32
  let v634 : BitVec 32 := Scalar.addi v2 c7_i32_403
  let c16_i32_404 : BitVec 32 := 16#32
  let c0_i32_405 : BitVec 32 := 0#32
  let v635 : BitVec 1 := Scalar.cmpi .eq c16_i32_404 c0_i32_405
  let c1_i32_406 : BitVec 32 := 1#32
  let v636 : BitVec 32 := Scalar.select v635 c1_i32_406 c16_i32_404
  let v637 : BitVec 32 := Scalar.remsi v634 v636
  let c0_i32_408 : BitVec 32 := 0#32
  let v639 : BitVec 1 := Scalar.cmpi .slt v637 c0_i32_408
  let c0_i32_409 : BitVec 32 := 0#32
  let v640 : BitVec 1 := Scalar.cmpi .slt v636 c0_i32_409
  let v641 : BitVec 1 := Scalar.xori v639 v640
  let c0_i32_407 : BitVec 32 := 0#32
  let v638 : BitVec 1 := Scalar.cmpi .ne v637 c0_i32_407
  let v642 : BitVec 1 := Scalar.andi v641 v638
  let v643 : BitVec 32 := Scalar.addi v637 v636
  let v644 : BitVec 32 := Scalar.select v642 v643 v637
  let c1_i32_411 : BitVec 32 := 1#32
  let v645 : BitVec 32 := Scalar.muli v644 c1_i32_411
  let v646 : BitVec 32 := Scalar.addi c0_i32_412 v645
  v646.toNat
def k0_dev38 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_415 : BitVec 32 := 8#32
  let v653 : BitVec 32 := Scalar.addi v2 c8_i32_415
  let c16_i32_416 : BitVec 32 := 16#32
  let c0_i32_417 : BitVec 32 := 0#32
  let v654 : BitVec 1 := Scalar.cmpi .eq c16_i32_416 c0_i32_417
  let c1_i32_418 : BitVec 32 := 1#32
  let v655 : BitVec 32 := Scalar.select v654 c1_i32_418 c16_i32_416
  let v656 : BitVec 32 := Scalar.remsi v653 v655
  let c0_i32_420 : BitVec 32 := 0#32
  let v658 : BitVec 1 := Scalar.cmpi .slt v656 c0_i32_420
  let c0_i32_421 : BitVec 32 := 0#32
  let v659 : BitVec 1 := Scalar.cmpi .slt v655 c0_i32_421
  let v660 : BitVec 1 := Scalar.xori v658 v659
  let c0_i32_419 : BitVec 32 := 0#32
  let v657 : BitVec 1 := Scalar.cmpi .ne v656 c0_i32_419
  let v661 : BitVec 1 := Scalar.andi v660 v657
  let v662 : BitVec 32 := Scalar.addi v656 v655
  let v663 : BitVec 32 := Scalar.select v661 v662 v656
  let c1_i32_423 : BitVec 32 := 1#32
  let v664 : BitVec 32 := Scalar.muli v663 c1_i32_423
  let v665 : BitVec 32 := Scalar.addi c0_i32_424 v664
  v665.toNat
def k0_dev39 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_427 : BitVec 32 := 9#32
  let v672 : BitVec 32 := Scalar.addi v2 c9_i32_427
  let c16_i32_428 : BitVec 32 := 16#32
  let c0_i32_429 : BitVec 32 := 0#32
  let v673 : BitVec 1 := Scalar.cmpi .eq c16_i32_428 c0_i32_429
  let c1_i32_430 : BitVec 32 := 1#32
  let v674 : BitVec 32 := Scalar.select v673 c1_i32_430 c16_i32_428
  let v675 : BitVec 32 := Scalar.remsi v672 v674
  let c0_i32_432 : BitVec 32 := 0#32
  let v677 : BitVec 1 := Scalar.cmpi .slt v675 c0_i32_432
  let c0_i32_433 : BitVec 32 := 0#32
  let v678 : BitVec 1 := Scalar.cmpi .slt v674 c0_i32_433
  let v679 : BitVec 1 := Scalar.xori v677 v678
  let c0_i32_431 : BitVec 32 := 0#32
  let v676 : BitVec 1 := Scalar.cmpi .ne v675 c0_i32_431
  let v680 : BitVec 1 := Scalar.andi v679 v676
  let v681 : BitVec 32 := Scalar.addi v675 v674
  let v682 : BitVec 32 := Scalar.select v680 v681 v675
  let c1_i32_435 : BitVec 32 := 1#32
  let v683 : BitVec 32 := Scalar.muli v682 c1_i32_435
  let v684 : BitVec 32 := Scalar.addi c0_i32_436 v683
  v684.toNat
def k0_dev40 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_439 : BitVec 32 := 10#32
  let v691 : BitVec 32 := Scalar.addi v2 c10_i32_439
  let c16_i32_440 : BitVec 32 := 16#32
  let c0_i32_441 : BitVec 32 := 0#32
  let v692 : BitVec 1 := Scalar.cmpi .eq c16_i32_440 c0_i32_441
  let c1_i32_442 : BitVec 32 := 1#32
  let v693 : BitVec 32 := Scalar.select v692 c1_i32_442 c16_i32_440
  let v694 : BitVec 32 := Scalar.remsi v691 v693
  let c0_i32_444 : BitVec 32 := 0#32
  let v696 : BitVec 1 := Scalar.cmpi .slt v694 c0_i32_444
  let c0_i32_445 : BitVec 32 := 0#32
  let v697 : BitVec 1 := Scalar.cmpi .slt v693 c0_i32_445
  let v698 : BitVec 1 := Scalar.xori v696 v697
  let c0_i32_443 : BitVec 32 := 0#32
  let v695 : BitVec 1 := Scalar.cmpi .ne v694 c0_i32_443
  let v699 : BitVec 1 := Scalar.andi v698 v695
  let v700 : BitVec 32 := Scalar.addi v694 v693
  let v701 : BitVec 32 := Scalar.select v699 v700 v694
  let c1_i32_447 : BitVec 32 := 1#32
  let v702 : BitVec 32 := Scalar.muli v701 c1_i32_447
  let v703 : BitVec 32 := Scalar.addi c0_i32_448 v702
  v703.toNat
def k0_dev41 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_451 : BitVec 32 := 11#32
  let v710 : BitVec 32 := Scalar.addi v2 c11_i32_451
  let c16_i32_452 : BitVec 32 := 16#32
  let c0_i32_453 : BitVec 32 := 0#32
  let v711 : BitVec 1 := Scalar.cmpi .eq c16_i32_452 c0_i32_453
  let c1_i32_454 : BitVec 32 := 1#32
  let v712 : BitVec 32 := Scalar.select v711 c1_i32_454 c16_i32_452
  let v713 : BitVec 32 := Scalar.remsi v710 v712
  let c0_i32_456 : BitVec 32 := 0#32
  let v715 : BitVec 1 := Scalar.cmpi .slt v713 c0_i32_456
  let c0_i32_457 : BitVec 32 := 0#32
  let v716 : BitVec 1 := Scalar.cmpi .slt v712 c0_i32_457
  let v717 : BitVec 1 := Scalar.xori v715 v716
  let c0_i32_455 : BitVec 32 := 0#32
  let v714 : BitVec 1 := Scalar.cmpi .ne v713 c0_i32_455
  let v718 : BitVec 1 := Scalar.andi v717 v714
  let v719 : BitVec 32 := Scalar.addi v713 v712
  let v720 : BitVec 32 := Scalar.select v718 v719 v713
  let c1_i32_459 : BitVec 32 := 1#32
  let v721 : BitVec 32 := Scalar.muli v720 c1_i32_459
  let v722 : BitVec 32 := Scalar.addi c0_i32_460 v721
  v722.toNat
def k0_dev42 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_463 : BitVec 32 := 12#32
  let v729 : BitVec 32 := Scalar.addi v2 c12_i32_463
  let c16_i32_464 : BitVec 32 := 16#32
  let c0_i32_465 : BitVec 32 := 0#32
  let v730 : BitVec 1 := Scalar.cmpi .eq c16_i32_464 c0_i32_465
  let c1_i32_466 : BitVec 32 := 1#32
  let v731 : BitVec 32 := Scalar.select v730 c1_i32_466 c16_i32_464
  let v732 : BitVec 32 := Scalar.remsi v729 v731
  let c0_i32_468 : BitVec 32 := 0#32
  let v734 : BitVec 1 := Scalar.cmpi .slt v732 c0_i32_468
  let c0_i32_469 : BitVec 32 := 0#32
  let v735 : BitVec 1 := Scalar.cmpi .slt v731 c0_i32_469
  let v736 : BitVec 1 := Scalar.xori v734 v735
  let c0_i32_467 : BitVec 32 := 0#32
  let v733 : BitVec 1 := Scalar.cmpi .ne v732 c0_i32_467
  let v737 : BitVec 1 := Scalar.andi v736 v733
  let v738 : BitVec 32 := Scalar.addi v732 v731
  let v739 : BitVec 32 := Scalar.select v737 v738 v732
  let c1_i32_471 : BitVec 32 := 1#32
  let v740 : BitVec 32 := Scalar.muli v739 c1_i32_471
  let v741 : BitVec 32 := Scalar.addi c0_i32_472 v740
  v741.toNat
def k0_dev43 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_475 : BitVec 32 := 13#32
  let v748 : BitVec 32 := Scalar.addi v2 c13_i32_475
  let c16_i32_476 : BitVec 32 := 16#32
  let c0_i32_477 : BitVec 32 := 0#32
  let v749 : BitVec 1 := Scalar.cmpi .eq c16_i32_476 c0_i32_477
  let c1_i32_478 : BitVec 32 := 1#32
  let v750 : BitVec 32 := Scalar.select v749 c1_i32_478 c16_i32_476
  let v751 : BitVec 32 := Scalar.remsi v748 v750
  let c0_i32_480 : BitVec 32 := 0#32
  let v753 : BitVec 1 := Scalar.cmpi .slt v751 c0_i32_480
  let c0_i32_481 : BitVec 32 := 0#32
  let v754 : BitVec 1 := Scalar.cmpi .slt v750 c0_i32_481
  let v755 : BitVec 1 := Scalar.xori v753 v754
  let c0_i32_479 : BitVec 32 := 0#32
  let v752 : BitVec 1 := Scalar.cmpi .ne v751 c0_i32_479
  let v756 : BitVec 1 := Scalar.andi v755 v752
  let v757 : BitVec 32 := Scalar.addi v751 v750
  let v758 : BitVec 32 := Scalar.select v756 v757 v751
  let c1_i32_483 : BitVec 32 := 1#32
  let v759 : BitVec 32 := Scalar.muli v758 c1_i32_483
  let v760 : BitVec 32 := Scalar.addi c0_i32_484 v759
  v760.toNat
def k0_dev44 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_487 : BitVec 32 := 14#32
  let v767 : BitVec 32 := Scalar.addi v2 c14_i32_487
  let c16_i32_488 : BitVec 32 := 16#32
  let c0_i32_489 : BitVec 32 := 0#32
  let v768 : BitVec 1 := Scalar.cmpi .eq c16_i32_488 c0_i32_489
  let c1_i32_490 : BitVec 32 := 1#32
  let v769 : BitVec 32 := Scalar.select v768 c1_i32_490 c16_i32_488
  let v770 : BitVec 32 := Scalar.remsi v767 v769
  let c0_i32_492 : BitVec 32 := 0#32
  let v772 : BitVec 1 := Scalar.cmpi .slt v770 c0_i32_492
  let c0_i32_493 : BitVec 32 := 0#32
  let v773 : BitVec 1 := Scalar.cmpi .slt v769 c0_i32_493
  let v774 : BitVec 1 := Scalar.xori v772 v773
  let c0_i32_491 : BitVec 32 := 0#32
  let v771 : BitVec 1 := Scalar.cmpi .ne v770 c0_i32_491
  let v775 : BitVec 1 := Scalar.andi v774 v771
  let v776 : BitVec 32 := Scalar.addi v770 v769
  let v777 : BitVec 32 := Scalar.select v775 v776 v770
  let c1_i32_495 : BitVec 32 := 1#32
  let v778 : BitVec 32 := Scalar.muli v777 c1_i32_495
  let v779 : BitVec 32 := Scalar.addi c0_i32_496 v778
  v779.toNat
def k0_dev45 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_499 : BitVec 32 := 15#32
  let v786 : BitVec 32 := Scalar.addi v2 c15_i32_499
  let c16_i32_500 : BitVec 32 := 16#32
  let c0_i32_501 : BitVec 32 := 0#32
  let v787 : BitVec 1 := Scalar.cmpi .eq c16_i32_500 c0_i32_501
  let c1_i32_502 : BitVec 32 := 1#32
  let v788 : BitVec 32 := Scalar.select v787 c1_i32_502 c16_i32_500
  let v789 : BitVec 32 := Scalar.remsi v786 v788
  let c0_i32_504 : BitVec 32 := 0#32
  let v791 : BitVec 1 := Scalar.cmpi .slt v789 c0_i32_504
  let c0_i32_505 : BitVec 32 := 0#32
  let v792 : BitVec 1 := Scalar.cmpi .slt v788 c0_i32_505
  let v793 : BitVec 1 := Scalar.xori v791 v792
  let c0_i32_503 : BitVec 32 := 0#32
  let v790 : BitVec 1 := Scalar.cmpi .ne v789 c0_i32_503
  let v794 : BitVec 1 := Scalar.andi v793 v790
  let v795 : BitVec 32 := Scalar.addi v789 v788
  let v796 : BitVec 32 := Scalar.select v794 v795 v789
  let c1_i32_507 : BitVec 32 := 1#32
  let v797 : BitVec 32 := Scalar.muli v796 c1_i32_507
  let v798 : BitVec 32 := Scalar.addi c0_i32_508 v797
  v798.toNat
def k0_off4 (d0 : Dev nD) (c1_i32_511 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v805 : BitVec 32 := Scalar.addi v2 c1_i32_511
  let c16_i32_512 : BitVec 32 := 16#32
  let c0_i32_513 : BitVec 32 := 0#32
  let v806 : BitVec 1 := Scalar.cmpi .eq c16_i32_512 c0_i32_513
  let c1_i32_514 : BitVec 32 := 1#32
  let v807 : BitVec 32 := Scalar.select v806 c1_i32_514 c16_i32_512
  let v808 : BitVec 32 := Scalar.remsi v805 v807
  let c0_i32_516 : BitVec 32 := 0#32
  let v810 : BitVec 1 := Scalar.cmpi .slt v808 c0_i32_516
  let c0_i32_517 : BitVec 32 := 0#32
  let v811 : BitVec 1 := Scalar.cmpi .slt v807 c0_i32_517
  let v812 : BitVec 1 := Scalar.xori v810 v811
  let c0_i32_515 : BitVec 32 := 0#32
  let v809 : BitVec 1 := Scalar.cmpi .ne v808 c0_i32_515
  let v813 : BitVec 1 := Scalar.andi v812 v809
  let v814 : BitVec 32 := Scalar.addi v808 v807
  let v815 : BitVec 32 := Scalar.select v813 v814 v808
  ![v815.toNat]
def k0_off5 (d0 : Dev nD) (c1_i32_511 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v805 : BitVec 32 := Scalar.addi v2 c1_i32_511
  let c16_i32_512 : BitVec 32 := 16#32
  let c0_i32_513 : BitVec 32 := 0#32
  let v806 : BitVec 1 := Scalar.cmpi .eq c16_i32_512 c0_i32_513
  let c1_i32_514 : BitVec 32 := 1#32
  let v807 : BitVec 32 := Scalar.select v806 c1_i32_514 c16_i32_512
  let v808 : BitVec 32 := Scalar.remsi v805 v807
  let c0_i32_516 : BitVec 32 := 0#32
  let v810 : BitVec 1 := Scalar.cmpi .slt v808 c0_i32_516
  let c0_i32_517 : BitVec 32 := 0#32
  let v811 : BitVec 1 := Scalar.cmpi .slt v807 c0_i32_517
  let v812 : BitVec 1 := Scalar.xori v810 v811
  let c0_i32_515 : BitVec 32 := 0#32
  let v809 : BitVec 1 := Scalar.cmpi .ne v808 c0_i32_515
  let v813 : BitVec 1 := Scalar.andi v812 v809
  let v814 : BitVec 32 := Scalar.addi v808 v807
  let v815 : BitVec 32 := Scalar.select v813 v814 v808
  let c0_i32_520 : BitVec 32 := 0#32
  let c0_i32_521 : BitVec 32 := 0#32
  ![v815.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 13
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x16384, .f32⟩
  | .hbm, ⟨5, _⟩ => ⟨S2048x16384, .f32⟩
  | .hbm, ⟨6, _⟩ => ⟨S2048x16384, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x16384, .f32⟩
  | .hbm, ⟨11, _⟩ => ⟨S2048x16384, .f32⟩
  | .hbm, ⟨12, _⟩ => ⟨S2048x16384, .bf16⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.KernelIdealPhases.lean ====
/-
The kernel's body in phases: the same memory operations in the same order as the printed body, with each run of
fifteen like operations written as a walk over a list. Everything below the walk is read on the kernel's own buffers.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.SoftmaxKernelIdeal

open Cert.KernelIdeal Cert.KernelIdeal.Gen
open Idealize.ShloMosaic Idealize.ShloMosaic.TcCoe
open Idealize.SL Idealize.SL.Sem

variable {F : FTy → Type} [FloatOps F]

/-- What the body's programs are. -/
abbrev Code (F : FTy → Type) : Type _ := Prog (TpuEff nD τ sig (Elt F) Λ₀ .tc) PUnit

/-! ## The buffers, by block -/

/-- The block's rows of the input, staged. -/
abbrev xM : Memref sig .tc .vmem S2048x1024 .f32 := win0_0.stage (cfg0.slots t0_0 0)
/-- Where the rows are gathered before they go out. -/
abbrev oM : Memref sig .tc .vmem S2048x1024 .bf16 := Memref.whole cc0_scratch0
/-- The result. -/
abbrev rM : Memref sig .tc .hbm S2048x1024 .bf16 := Memref.whole main_v1
/-- This device's row sums of block `b`. -/
abbrev myM (b : Fin 2) : Memref sig .tc .vmem S8x128 .f32 := if b = 0 then Memref.whole cc0_scratch1 else Memref.whole cc0_scratch2
/-- All devices' row sums of block `b`. -/
abbrev stM (b : Fin 2) : Memref sig .tc .vmem S16x8x128 .f32 := if b = 0 then Memref.whole cc0_scratch3 else Memref.whole cc0_scratch4
/-- The send semaphores of block `b`, one per distance. -/
abbrev ssM (b : Fin 2) : DmaSems sig S16 := if b = 0 then cc0_scratch6 else cc0_scratch7
/-- The receive semaphores of block `b`, one per sender. -/
abbrev rsM (b : Fin 2) : DmaSems sig S16 := if b = 0 then cc0_scratch8 else cc0_scratch9

theorem my_whole (b : Fin 2) : (myM b).IsWhole := by
  unfold myM; split <;> exact Memref.isWhole_whole _

theorem st_whole (b : Fin 2) : (stM b).IsWhole := by
  unfold stM; split <;> exact Memref.isWhole_whole _

/-- Row `o` of the row sums of block `b`. -/
abbrev rowAt (b : Fin 2) (o : Fin 3 → ℕ) (h : ∀ a, o a + S1x8x128.size a ≤ S16x8x128.size a) : Memref sig .tc .vmem S8x128 .f32 :=
  ((stM b).slice (Rect.unit (s := S16x8x128) o S1x8x128.size h) (fun _ => rfl)).squeeze S8x128 squeezes_S1x8x128_S8x128

/-- One semaphore of a row of sixteen. -/
abbrev semAt (s : DmaSems sig S16) (o : Fin 1 → ℕ) (h : ∀ a, o a + S1.size a ≤ S16.size a) : DmaSem sig :=
  ((s.slice (Rect.unit (s := S16) o S1.size h)).squeeze S_ squeezes_S1_S_).sem

theorem inb_dist (r : Fin 15) : ∀ a, (![1 + r.val] : Fin 1 → ℕ) a + S1.size a ≤ S16.size a := by
  revert r; decide

/-! ## One step of each walk -/

/-- The semaphore the devices meet on. -/
abbrev barS : Sem sig := (SemArray.scalar (sig.barrier 0 rfl) : Sems sig S_).sem

/-- Tell device `p` this device is here. -/
def tell (p : Dev nD) (k : Code F) : Code F :=
  .op (.semSignal (Dev.tc p) barS (1#32).toInt) fun _ => k

/-- Send this device's row sums of block `b` to device `x.2`, at distance `x.1`. -/
def post (b : Fin 2) (d : Dev nD) (x : Fin 15 × Dev nD) (k : Code F) : Code F :=
  .op (.enqueueDma (myM b) (.remote (Dev.tc x.2) (rowAt b (k0_off3 d) (k0_off3_inb d)) (.dma (semAt (ssM b) ![1 + x.1.val] (inb_dist x.1))))
    (.dma (semAt (rsM b) (k0_off2 d) (k0_off2_inb d))) (my_whole b).wordExact ((View.wordExact_bits rfl).reshape _ _) ⟨⟨rfl, Or.inl rfl⟩, trivial⟩) fun _ => k

/-- Wait for the row sums of block `b` of the device at distance `r`. -/
def take (b : Fin 2) (d : Dev nD) (r : Fin 15) (k : Code F) : Code F :=
  .op (.waitDma2 (semAt (rsM b) (k0_off4 d (BitVec.ofNat 32 (1 + r.val))) (k0_off4_inb d r)) (myM b)
    (rowAt b (k0_off5 d (BitVec.ofNat 32 (1 + r.val))) (k0_off5_inb d r)) (my_whole b).wordExact ((View.wordExact_bits rfl).reshape _ _)) fun _ => k

/-- Wait until the send at distance `r` has left. -/
def gone (b : Fin 2) (d : Dev nD) (r : Fin 15) (k : Code F) : Code F :=
  .op (.waitDma2 (semAt (ssM b) ![1 + r.val] (inb_dist r)) (rowAt b (k0_off3 d) (k0_off3_inb d)) (myM b)
    ((View.wordExact_bits rfl).reshape _ _) (my_whole b).wordExact) fun _ => k

/-- A walk: one step per entry of the list, then the rest. -/
def walk {ι : Type} (s : ι → Code F → Code F) (l : List ι) (k : Code F) : Code F := l.foldr s k

/-! ## The stretches between the walks -/

theorem inb_half (b : Fin 2) : ∀ a, (![1024 * b.val, 0] : Fin 2 → ℕ) a + S1024x1024.size a ≤ S2048x1024.size a := by
  revert b; decide

/-- The rows of block `b`, as a rectangle. -/
abbrev halfR (b : Fin 2) : Rect S2048x1024 := Rect.unit (s := S2048x1024) ![1024 * b.val, 0] S1024x1024.size (inb_half b)

theorem packed_half (b : Fin 2) : (halfR b).PackedRows (EltTy.packing .bf16) := by
  revert b; decide
theorem words_half (b : Fin 2) : (halfR b).WholeWords (EltTy.packing .bf16) := .inl (packed_half b)

/-- Read block `b` of the input. -/
def readX (b : Fin 2) (k : Vec F S1024x1024 .f32 → Code F) : Code F :=
  .op (.load xM (halfR b).toLoadRect (View.loadsAt_vmem h_S1024x1024)) k

/-- Read block `b` of the gathered rows. -/
def readO (b : Fin 2) (k : Vec F S1024x1024 .bf16 → Code F) : Code F :=
  .op (.load oM (halfR b).toLoadRect (View.loadsAt_vmem h_S1024x1024)) k

/-- Write block `b` of the gathered rows. -/
def writeO (b : Fin 2) (w : FVec F S1024x1024 .bf16) (k : Code F) : Code F :=
  .op (.store oM (halfR b) w Finset.univ (View.stores_vmem h_S1024x1024 ((Memref.isWhole_whole cc0_scratch0).storeExact_slice rfl _ (packed_half b)) (fun _ => rfl)) (.inl rfl)) fun _ => k

/-- Read, then write this device's row sums of block `b`. -/
def writeMy (b : Fin 2) (w : FVec F S8x128 .f32) (k : Code F) : Code F :=
  .op (.load (myM b) (Rect.unit (s := S8x128) ![0, 0] S8x128.size inb_S8x128_S8x128_0_0).toLoadRect (View.loadsAt_vmem h_S8x128)) fun _ =>
  .op (.store (myM b) (Rect.unit (s := S8x128) ![0, 0] S8x128.size inb_S8x128_S8x128_0_0) w Finset.univ (View.stores_vmem_bits_univ h_S8x128 rfl) (.inl rfl)) fun _ => k

/-- Read, then write this device's row of the row sums of block `b`. -/
def writeRow (b : Fin 2) (d : Dev nD) (w : FVec F S1x8x128 .f32) (k : Code F) : Code F :=
  .op (.load (stM b) (Rect.unit (s := S16x8x128) (k0_off1 d) S1x8x128.size (k0_off1_inb d)).toLoadRect (View.loadsAt_vmem h_S1x8x128)) fun _ =>
  .op (.store (stM b) (Rect.unit (s := S16x8x128) (k0_off1 d) S1x8x128.size (k0_off1_inb d)) w Finset.univ (View.stores_vmem_bits_univ h_S1x8x128 rfl) (.inl rfl)) fun _ => k

/-- Read all the row sums of block `b`. -/
def readAll (b : Fin 2) (k : Vec F S16x8x128 .f32 → Code F) : Code F :=
  .op (.load (stM b) (Rect.unit (s := S16x8x128) ![0, 0, 0] S16x8x128.size inb_S16x8x128_S16x8x128_0_0_0).toLoadRect (View.loadsAt_vmem h_S16x8x128)) k

/-- Wait for the fifteen other devices. -/
def meet (k : Code F) : Code F :=
  .op (.semWait barS (15#32).toInt) fun _ => k

theorem inb_two (b : Fin 2) : ∀ a, (![b.val] : Fin 1 → ℕ) a + S1.size a ≤ S2.size a := by
  revert b; decide

/-- The semaphore of block `b`'s way out. -/
abbrev outSem (b : Fin 2) : DmaSem sig :=
  ((cc0_scratch5.slice (Rect.unit (s := S2) ![b.val] S1.size (inb_two b))).squeeze S_ squeezes_S1_S_).sem

/-- Block `b` of the result. -/
abbrev rH (b : Fin 2) : Memref sig .tc .hbm S1024x1024 .bf16 := rM.slice (halfR b) (fun _ => rfl)
/-- Block `b` of the gathered rows. -/
abbrev oH (b : Fin 2) : Memref sig .tc .vmem S1024x1024 .bf16 := oM.slice (halfR b) (fun _ => rfl)

/-- Start block `b`'s copy into the result. -/
def emitOut (b : Fin 2) (k : Code F) : Code F :=
  .op (.enqueueDma (oH b) (.here (rH b)) (.dma (outSem b)) ((Memref.isWhole_whole cc0_scratch0).wordExact_slice rfl _ (words_half b))
    ((Memref.isWhole_whole main_v1).wordExact_slice rfl _ (words_half b)) ⟨Or.inl rfl, trivial⟩) fun _ => k

/-- Wait for block `b`'s copy. -/
def waitOut (b : Fin 2) (k : Code F) : Code F :=
  .op (.waitDma2 (outSem b) (oH b) (rH b) ((Memref.isWhole_whole cc0_scratch0).wordExact_slice rfl _ (words_half b))
    ((Memref.isWhole_whole main_v1).wordExact_slice rfl _ (words_half b))) fun _ => k

/-! ## The body -/

/-- The devices told, nearest first, as the body names them. -/
abbrev tellL (d : Dev nD) : List (Dev nD) :=
  [⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩,
   ⟨k0_dev6 d, k0_dev6_lt d⟩, ⟨k0_dev7 d, k0_dev7_lt d⟩, ⟨k0_dev8 d, k0_dev8_lt d⟩, ⟨k0_dev9 d, k0_dev9_lt d⟩, ⟨k0_dev10 d, k0_dev10_lt d⟩,
   ⟨k0_dev11 d, k0_dev11_lt d⟩, ⟨k0_dev12 d, k0_dev12_lt d⟩, ⟨k0_dev13 d, k0_dev13_lt d⟩, ⟨k0_dev14 d, k0_dev14_lt d⟩, ⟨k0_dev15 d, k0_dev15_lt d⟩]
/-- The receivers of block 0, as the body names them. -/
abbrev postL0 (d : Dev nD) : List (Fin 15 × Dev nD) :=
  [(0, ⟨k0_dev16 d, k0_dev16_lt d⟩), (1, ⟨k0_dev17 d, k0_dev17_lt d⟩), (2, ⟨k0_dev18 d, k0_dev18_lt d⟩), (3, ⟨k0_dev19 d, k0_dev19_lt d⟩),
   (4, ⟨k0_dev20 d, k0_dev20_lt d⟩), (5, ⟨k0_dev21 d, k0_dev21_lt d⟩), (6, ⟨k0_dev22 d, k0_dev22_lt d⟩), (7, ⟨k0_dev23 d, k0_dev23_lt d⟩),
   (8, ⟨k0_dev24 d, k0_dev24_lt d⟩), (9, ⟨k0_dev25 d, k0_dev25_lt d⟩), (10, ⟨k0_dev26 d, k0_dev26_lt d⟩), (11, ⟨k0_dev27 d, k0_dev27_lt d⟩),
   (12, ⟨k0_dev28 d, k0_dev28_lt d⟩), (13, ⟨k0_dev29 d, k0_dev29_lt d⟩), (14, ⟨k0_dev30 d, k0_dev30_lt d⟩)]
/-- The receivers of block 1, as the body names them. -/
abbrev postL1 (d : Dev nD) : List (Fin 15 × Dev nD) :=
  [(0, ⟨k0_dev31 d, k0_dev31_lt d⟩), (1, ⟨k0_dev32 d, k0_dev32_lt d⟩), (2, ⟨k0_dev33 d, k0_dev33_lt d⟩), (3, ⟨k0_dev34 d, k0_dev34_lt d⟩),
   (4, ⟨k0_dev35 d, k0_dev35_lt d⟩), (5, ⟨k0_dev36 d, k0_dev36_lt d⟩), (6, ⟨k0_dev37 d, k0_dev37_lt d⟩), (7, ⟨k0_dev38 d, k0_dev38_lt d⟩),
   (8, ⟨k0_dev39 d, k0_dev39_lt d⟩), (9, ⟨k0_dev40 d, k0_dev40_lt d⟩), (10, ⟨k0_dev41 d, k0_dev41_lt d⟩), (11, ⟨k0_dev42 d, k0_dev42_lt d⟩),
   (12, ⟨k0_dev43 d, k0_dev43_lt d⟩), (13, ⟨k0_dev44 d, k0_dev44_lt d⟩), (14, ⟨k0_dev45 d, k0_dev45_lt d⟩)]
/-- The fifteen distances. -/
abbrev distL : List (Fin 15) := [0, 1, 2, 3, 4, 5, 6, 7, 8, 9, 10, 11, 12, 13, 14]

/-- The end: both copies out and all the sends are waited for. -/
def bodyD (d : Dev nD) : Code F :=
  waitOut 0 <| waitOut 1 <| walk (gone 0 d) distL <| walk (gone 1 d) distL <| .ret ⟨⟩

/-- Block 1's row sums arrive, its rows are scaled and start on their way out. -/
def bodyC (d : Dev nD) : Code F :=
  walk (take 1 d) distL <| readAll 1 fun s => readO 1 fun e => readO 1 fun _ => writeO 1 (k0_pay12 s e) <| emitOut 1 <| bodyD d

/-- Block 0's row sums arrive, its rows are scaled and start on their way out. -/
def bodyB (d : Dev nD) : Code F :=
  walk (take 0 d) distL <| readAll 0 fun s => readO 0 fun e => readO 0 fun _ => writeO 0 (k0_pay11 s e) <| emitOut 0 <| bodyC d

/-- Block 1's row sums are computed and sent. -/
def bodyA (d : Dev nD) : Code F :=
  readX 1 fun x => readO 1 fun _ => writeO 1 (k0_pay8 x) <| writeMy 1 (k0_pay9 (k0_pay7 x)) <| writeRow 1 d (k0_pay10 (k0_pay7 x)) <|
  walk (post 1 d) (postL1 d) <| bodyB d

/-- The others are told, block 0's row sums are computed, the others are met, and the sums sent. -/
def bodyS (d : Dev nD) : Code F :=
  walk tell (tellL d) <| readX 0 fun x => readO 0 fun _ => writeO 0 (k0_pay3 x) <| writeMy 0 (k0_pay4 x) <| writeRow 0 d (k0_pay5 x) <|
  meet <| walk (post 0 d) (postL0 d) <| bodyA d

set_option maxRecDepth 65536 in
/-- The printed body is its phases. -/
theorem body_eq : bodyAt0 (F := F) t0_0 = .op .deviceId fun d => bodyS d := rfl

end Cert.SoftmaxKernelIdeal
-- ==== Proof.KernelIdealProtocol.lean ====
/-
The protocol of the sixteen devices. Every device tells the fifteen others it is here, handing each one the two rows
of its tables that other device will write. It sends its row sums of each block to the fifteen others, waits for
theirs, and for its own sends, and copies the finished blocks out. Each cell has one round. A duty is named by the
device that pays it.
-/
module

public import proofs.«01_k».proof.Proof.KernelIdealPhases
public import Idealize.ShloMosaic.Lib.Rounds
public import Idealize.ShloMosaic.Lib.ShareLeaves
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.SoftmaxKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

set_option backward.proofsInPublic true in
/-- The device at distance `r + 1`. -/
def peer (d : Dev nD) (r : Fin 15) : Dev nD := ⟨(d.val + r.val + 1) % 16, Nat.mod_lt _ (by decide)⟩

theorem peer_ne (d : Dev nD) (r : Fin 15) : peer d r ≠ d := by revert d r; decide
theorem peer_inj (d : Dev nD) (r r' : Fin 15) (h : peer d r = peer d r') : r = r' := by revert d r r'; decide
theorem others (d : Dev nD) : (Finset.univ.erase d : Finset (Dev nD)) = (distL.map (peer d)).toFinset := by revert d; decide
theorem peers_nodup (d : Dev nD) : (distL.map (peer d)).Nodup := by revert d; decide
theorem distL_nodup : distL.Nodup := by decide

/-- All the devices are one of them and the fifteen others. -/
theorem bigSep_dev (d : Dev nD) (Φ : Dev nD → sProp 𝕄) :
    bigSep Finset.univ Φ = iprop(Φ d ∗ bigSepL distL fun r => Φ (peer d r)) := by
  rw [bigSep_univ_at _ d, bigSep_eq_bigSepL_of_eq _ (others d) (peers_nodup d), bigSepL_map]

theorem bigSep_others (d : Dev nD) (Φ : Dev nD → sProp 𝕄) :
    bigSep (Finset.univ.erase d) Φ = bigSepL distL fun r => Φ (peer d r) := by
  rw [bigSep_eq_bigSepL_of_eq _ (others d) (peers_nodup d), bigSepL_map]

theorem bigSep_two (Φ : Fin 2 → sProp 𝕄) : bigSep Finset.univ Φ = iprop(Φ 0 ∗ Φ 1) :=
  bigSep_univ_eq_bigSepL [0, 1] (by decide) (by decide) Φ

/-! ## The semaphores -/

theorem inb_dev (p : Dev nD) : ∀ a, (![p.val] : Fin 1 → ℕ) a + S1.size a ≤ S16.size a := by revert p; decide
theorem inb_row (p : Dev nD) : ∀ a, (![p.val, 0, 0] : Fin 3 → ℕ) a + S1x8x128.size a ≤ S16x8x128.size a := by revert p; decide

/-- The send semaphore of block `b` at place `o`. -/
abbrev sndS (b : Fin 2) (o : Dev nD) : DmaSem sig := semAt (ssM b) ![o.val] (inb_dev o)
/-- The receive semaphore of block `b` for device `p`. -/
abbrev rcvS (b : Fin 2) (p : Dev nD) : DmaSem sig := semAt (rsM b) ![p.val] (inb_dev p)

/-- The kernel's own cells: the two ways out, the sends, the receives; -/
abbrev OI : Type := Fin 2 ⊕ ((Fin 2 × Dev nD) ⊕ (Fin 2 × Dev nD))
/-- and the one the devices meet on. -/
abbrev KI : Type := Unit ⊕ OI

abbrev osem : OI → SemLoc sig
  | .inl b => .dma (outSem b)
  | .inr (.inl x) => .dma (sndS x.1 x.2)
  | .inr (.inr x) => .dma (rcvS x.1 x.2)
abbrev csem : KI → SemLoc sig
  | .inl _ => .reg barS
  | .inr k => osem k

/-- Which cell a semaphore is. -/
def kind : SemLoc sig → Option KI
  | .reg s => if s = barS then some (.inl ()) else none
  | .dma q =>
    if q.val = 0 then none
    else if q.val < 3 then some (.inr (.inl (if q.val = 1 then 0 else 1)))
    else if q.val < 35 then some (.inr (.inr (.inl (if q.val < 19 then 0 else 1, ⟨(q.val - 3) % 16, Nat.mod_lt _ (by decide)⟩))))
    else some (.inr (.inr (.inr (if q.val < 51 then 0 else 1, ⟨(q.val - 35) % 16, Nat.mod_lt _ (by decide)⟩))))

theorem kind_bar : kind (.reg barS) = some (.inl ()) := by decide
theorem kind_out (b : Fin 2) : kind (.dma (outSem b)) = some (.inr (.inl b)) := by revert b; decide
theorem kind_snd (b : Fin 2) (o : Dev nD) : kind (.dma (sndS b o)) = some (.inr (.inr (.inl (b, o)))) := by revert b o; decide
theorem kind_rcv (b : Fin 2) (p : Dev nD) : kind (.dma (rcvS b p)) = some (.inr (.inr (.inr (b, p)))) := by revert b p; decide

theorem kind_csem : ∀ k : KI, kind (csem k) = some k
  | .inl () => kind_bar
  | .inr (.inl b) => kind_out b
  | .inr (.inr (.inl x)) => kind_snd x.1 x.2
  | .inr (.inr (.inr x)) => kind_rcv x.1 x.2

abbrev kcell (ck : Dev nD × KI) : GSem nD τ sig := ((ck.1 : Thread nD τ), csem ck.2)
abbrev barCell (c : Dev nD) : GSem nD τ sig := ((c : Thread nD τ), .reg barS)
abbrev outCell (c : Dev nD) (b : Fin 2) : GSem nD τ sig := ((c : Thread nD τ), .dma (outSem b))
abbrev sndCell (c : Dev nD) (b : Fin 2) (o : Dev nD) : GSem nD τ sig := ((c : Thread nD τ), .dma (sndS b o))
abbrev rcvCell (c : Dev nD) (b : Fin 2) (p : Dev nD) : GSem nD τ sig := ((c : Thread nD τ), .dma (rcvS b p))

/-- Row `p` of the row sums of block `b`. -/
abbrev rowM (b : Fin 2) (p : Dev nD) : Memref sig .tc .vmem S8x128 .f32 := rowAt b ![p.val, 0, 0] (inb_row p)

/-- The units one device's row sums of a block bring; -/
def N : ℕ := (Memref.whole cc0_scratch1 : Memref sig .tc .vmem S8x128 .f32).view.dmaCredit
/-- those of a block on its way out. -/
def NO : ℕ := (rH 0).view.dmaCredit

theorem N_pos : 0 < N := View.dmaCredit_pos _ (by decide)
theorem NO_pos : 0 < NO := View.dmaCredit_pos _ (by decide)
theorem credit_my (b : Fin 2) : (myM b).view.dmaCredit = N := by fin_cases b <;> rfl
theorem credit_row (b : Fin 2) (o : Fin 3 → ℕ) (h : ∀ a, o a + S1x8x128.size a ≤ S16x8x128.size a) : (rowAt b o h).view.dmaCredit = N := by
  fin_cases b <;> rfl
theorem credit_out (b : Fin 2) : (rH b).view.dmaCredit = NO := by fin_cases b <;> rfl

/-! ## Contents -/

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Device `c`'s columns of the input. -/
def xAll (c : Dev nD) : S2048x1024.Idx → Elt F .f32 := (win0_0.blk (0 : Fin 1)).view.read (Elt F) (m ((c : Thread nD τ).loc main_arg0))
/-- Its rows of block `b`. -/
def xIn (c : Dev nD) (b : Fin 2) : Vec F S1024x1024 .f32 := fun j => xAll m c ((halfR b).emb j)
/-- Device `c`'s row sums of block `b`. -/
def stat (c : Dev nD) (b : Fin 2) : Vec F S8x128 .f32 := if b = 0 then k0_pay4 (xIn m c 0) else k0_pay9 (k0_pay7 (xIn m c 1))
/-- Its exponentials of block `b`. -/
def expo (c : Dev nD) (b : Fin 2) : Vec F S1024x1024 .bf16 := if b = 0 then k0_pay3 (xIn m c 0) else k0_pay8 (xIn m c 1)
/-- A place of one device's table, from a place of all of them. -/
def place (i : S16x8x128.Idx) : S8x128.Idx
  | ⟨0, _⟩ => i (1 : Fin 3)
  | ⟨1, _⟩ => i (2 : Fin 3)
/-- All the devices' row sums of block `b`. -/
def stats (b : Fin 2) : Vec F S16x8x128 .f32 := fun i => stat m (i (0 : Fin 3)) b (place i)
/-- Device `c`'s result in block `b`. -/
def outW (c : Dev nD) (b : Fin 2) : Vec F S1024x1024 .bf16 :=
  if b = 0 then k0_pay11 (stats m 0) (expo m c 0) else k0_pay12 (stats m 1) (expo m c 1)

/-! ## The schedule -/

/-- The share of the row sums that the send at place `o` takes. -/
abbrev part (o : Dev nD) : PosShare TreeShare := ShareLeaves.leaf 4 fullShare o

/-- What device `e` hands device `c` when it tells it is here: the rows `c` will write. -/
def barPay (c e : Dev nD) : sProp 𝕄 :=
  iprop((∃ X, owns (e : Thread nD τ) (rowM 0 c) fullShare X) ∗ ∃ X, owns (e : Thread nD τ) (rowM 1 c) fullShare X)
def outPay (c : Dev nD) (b : Fin 2) : sProp 𝕄 :=
  iprop(owns (c : Thread nD τ) (rH b) fullShare (outW m c b) ∗ owns (c : Thread nD τ) (oH b) fullShare (outW m c b))
def sndPay (c : Dev nD) (b : Fin 2) (o : Dev nD) : sProp 𝕄 := owns (c : Thread nD τ) (myM b) (part o) (stat m c b)
def rcvPay (c : Dev nD) (b : Fin 2) (p : Dev nD) : sProp 𝕄 := owns (c : Thread nD τ) (rowM b p) fullShare (stat m p b)

instance barPay_storable (c e : Dev nD) : BI.Storable (upEmb : UEmb _ 𝕄) (barPay (F := F) c e) := by unfold barPay; infer_instance
instance outPay_storable (c : Dev nD) (b : Fin 2) : BI.Storable (upEmb : UEmb _ 𝕄) (outPay m c b) := by unfold outPay; infer_instance
instance sndPay_storable (c : Dev nD) (b : Fin 2) (o : Dev nD) : BI.Storable (upEmb : UEmb _ 𝕄) (sndPay m c b o) := by unfold sndPay; infer_instance
instance rcvPay_storable (c : Dev nD) (b : Fin 2) (p : Dev nD) : BI.Storable (upEmb : UEmb _ 𝕄) (rcvPay m c b p) := by unfold rcvPay; infer_instance

/-- Who pays a cell of device `c`. -/
def dutiesK (c : Dev nD) : Option KI → Finset (Dev nD)
  | some (.inl _) => Finset.univ.erase c
  | some (.inr (.inl _)) => {c}
  | some (.inr (.inr (.inl x))) => if x.2 = 0 then ∅ else {c}
  | some (.inr (.inr (.inr x))) => if x.2 = c then ∅ else {x.2}
  | none => ∅
/-- How much a duty brings. -/
def amountK : Option KI → ℕ
  | some (.inl _) => 1
  | some (.inr (.inl _)) => NO
  | some (.inr (.inr _)) => N
  | none => 1
/-- What a duty hands over. -/
def payK (c : Dev nD) (e : Dev nD) : Option KI → sProp 𝕄
  | some (.inl _) => barPay c e
  | some (.inr (.inl b)) => outPay m c b
  | some (.inr (.inr (.inl x))) => sndPay m c x.1 x.2
  | some (.inr (.inr (.inr x))) => rcvPay m c x.1 x.2
  | none => iprop(emp)

instance payK_storable (c e : Dev nD) (k : Option KI) : BI.Storable (upEmb : UEmb _ 𝕄) (payK m c e k) := by
  rcases k with _ | _ | _ | _ | _ <;> (unfold payK; infer_instance)

theorem amountK_pos (k : Option KI) : 0 < amountK k := by
  rcases k with _ | _ | _ | _ | _ <;> first | exact Nat.one_pos | exact NO_pos | exact N_pos

/-- The schedule: one round of each cell. -/
def Rd : Rounds.Schedule (GSem nD τ sig) (Dev nD) 𝕄 where
  duties g r := if r = 0 ∧ g.1.2 = .tc then dutiesK g.1.1 (kind g.2) else ∅
  unitless _ := False
  amount g _ _ := amountK (kind g.2)
  payload g _ e := payK m g.1.1 e (kind g.2)
  amount_pos g _ _ _ := amountK_pos _

instance Rd_payload_storable (g : GSem nD τ sig) (r : ℕ) (d : Dev nD) :
    BI.Storable (upEmb : UEmb _ 𝕄) ((Rd (F := F) m).payload g r d) := by
  show BI.Storable upEmb (payK m g.1.1 d (kind g.2)); infer_instance

section Sched
variable (c : Dev nD)

theorem duties_at (k : KI) : (Rd (F := F) m).duties (kcell (c, k)) 0 = dutiesK c (some k) := by
  dsimp only [Rd]; rw [if_pos ⟨rfl, rfl⟩, kind_csem]
theorem duties_later (g : GSem nD τ sig) : ∀ r, 1 ≤ r → (Rd (F := F) m).duties g r = ∅ :=
  fun r hr => by dsimp only [Rd]; rw [if_neg fun h => by omega]
theorem amount_at (k : KI) (e : Dev nD) : (Rd (F := F) m).amount (kcell (c, k)) 0 e = amountK (some k) := by
  dsimp only [Rd]; rw [kind_csem]
theorem payload_at (k : KI) (e : Dev nD) : (Rd (F := F) m).payload (kcell (c, k)) 0 e = payK m c e (some k) := by
  dsimp only [Rd]; rw [kind_csem]

theorem duties_bar : (Rd (F := F) m).duties (barCell c) 0 = Finset.univ.erase c := duties_at m c (.inl ())
theorem duties_out (b : Fin 2) : (Rd (F := F) m).duties (outCell c b) 0 = {c} := duties_at m c (.inr (.inl b))
theorem duties_snd (b : Fin 2) (o : Dev nD) (h : o ≠ 0) : (Rd (F := F) m).duties (sndCell c b o) 0 = {c} :=
  (duties_at m c (.inr (.inr (.inl (b, o))))).trans (if_neg h)
theorem duties_snd0 (b : Fin 2) : (Rd (F := F) m).duties (sndCell c b 0) 0 = ∅ :=
  (duties_at m c (.inr (.inr (.inl (b, 0))))).trans (by dsimp only [dutiesK]; exact if_pos rfl)
theorem duties_rcv (b : Fin 2) (p : Dev nD) (h : p ≠ c) : (Rd (F := F) m).duties (rcvCell c b p) 0 = {p} :=
  (duties_at m c (.inr (.inr (.inr (b, p))))).trans (if_neg h)
theorem duties_rcv0 (b : Fin 2) : (Rd (F := F) m).duties (rcvCell c b c) 0 = ∅ :=
  (duties_at m c (.inr (.inr (.inr (b, c))))).trans (if_pos rfl)

theorem amount_bar (e : Dev nD) : (Rd (F := F) m).amount (barCell c) 0 e = 1 := amount_at m c (.inl ()) e
theorem amount_out (b : Fin 2) (e : Dev nD) : (Rd (F := F) m).amount (outCell c b) 0 e = NO := amount_at m c (.inr (.inl b)) e
theorem amount_snd (b : Fin 2) (o e : Dev nD) : (Rd (F := F) m).amount (sndCell c b o) 0 e = N := amount_at m c (.inr (.inr (.inl (b, o)))) e
theorem amount_rcv (b : Fin 2) (p e : Dev nD) : (Rd (F := F) m).amount (rcvCell c b p) 0 e = N := amount_at m c (.inr (.inr (.inr (b, p)))) e

theorem payload_bar (e : Dev nD) : (Rd (F := F) m).payload (barCell c) 0 e = barPay c e := payload_at m c (.inl ()) e
theorem payload_out (b : Fin 2) (e : Dev nD) : (Rd (F := F) m).payload (outCell c b) 0 e = outPay m c b := payload_at m c (.inr (.inl b)) e
theorem payload_snd (b : Fin 2) (o e : Dev nD) : (Rd (F := F) m).payload (sndCell c b o) 0 e = sndPay m c b o := payload_at m c (.inr (.inr (.inl (b, o)))) e
theorem payload_rcv (b : Fin 2) (p e : Dev nD) : (Rd (F := F) m).payload (rcvCell c b p) 0 e = rcvPay m c b p := payload_at m c (.inr (.inr (.inr (b, p)))) e

theorem expect_bar : (Rd (F := F) m).expect (barCell c) 0 = 15 := by
  unfold Schedule.expect Schedule.amountOf
  rw [duties_bar, Finset.sum_congr rfl fun d _ => amount_bar m c d, Finset.sum_const, Finset.card_erase_of_mem (Finset.mem_univ _), Finset.card_univ,
    Fintype.card_fin]
  rfl
theorem expect_out (b : Fin 2) : (Rd (F := F) m).expect (outCell c b) 0 = NO := by
  unfold Schedule.expect Schedule.amountOf; rw [duties_out, Finset.sum_singleton, amount_out]
theorem expect_snd (b : Fin 2) (o : Dev nD) (h : o ≠ 0) : (Rd (F := F) m).expect (sndCell c b o) 0 = N := by
  unfold Schedule.expect Schedule.amountOf; rw [duties_snd m c b o h, Finset.sum_singleton, amount_snd]
theorem expect_rcv (b : Fin 2) (p : Dev nD) (h : p ≠ c) : (Rd (F := F) m).expect (rcvCell c b p) 0 = N := by
  unfold Schedule.expect Schedule.amountOf; rw [duties_rcv m c b p h, Finset.sum_singleton, amount_rcv]

/-- What the meeting brings: the rows this device writes of each other device. -/
theorem rest_bar : bigSep ((Rd (F := F) m).duties (barCell c) 0 \ ∅) (fun d => (Rd (F := F) m).payload (barCell c) 0 d)
    = bigSepL distL fun r => barPay c (peer c r) := by
  rw [Finset.sdiff_empty, duties_bar, bigSep_others]; simp only [payload_bar]
theorem rest_out (b : Fin 2) : bigSep ((Rd (F := F) m).duties (outCell c b) 0 \ ∅) (fun d => (Rd (F := F) m).payload (outCell c b) 0 d) = outPay m c b := by
  rw [Finset.sdiff_empty, duties_out, bigSep_singleton, payload_out]
theorem rest_snd (b : Fin 2) (o : Dev nD) (h : o ≠ 0) :
    bigSep ((Rd (F := F) m).duties (sndCell c b o) 0 \ ∅) (fun d => (Rd (F := F) m).payload (sndCell c b o) 0 d) = sndPay m c b o := by
  rw [Finset.sdiff_empty, duties_snd m c b o h, bigSep_singleton, payload_snd]
theorem rest_rcv (b : Fin 2) (p : Dev nD) (h : p ≠ c) :
    bigSep ((Rd (F := F) m).duties (rcvCell c b p) 0 \ ∅) (fun d => (Rd (F := F) m).payload (rcvCell c b p) 0 d) = rcvPay m c b p := by
  rw [Finset.sdiff_empty, duties_rcv m c b p h, bigSep_singleton, payload_rcv]

end Sched

/-! ## What each device owes; the levels -/

/-- A list of dues, the first on top. -/
def dues (f : Fin 15 → CellTallies nD τ sig Unit) (l : List (Fin 15)) : CellTallies nD τ sig Unit := l.foldr (fun r acc => acc + f r) 0

theorem dues_nil (f : Fin 15 → CellTallies nD τ sig Unit) : dues f [] = 0 := rfl
theorem dues_cons (f : Fin 15 → CellTallies nD τ sig Unit) (r : Fin 15) (l : List (Fin 15)) : dues f (r :: l) = dues f l + f r := rfl

abbrev toTell (d : Dev nD) (r : Fin 15) : CellTallies nD τ sig Unit := tallyAt (barCell (peer d r)) () 1
abbrev toPost (b : Fin 2) (d : Dev nD) (r : Fin 15) : CellTallies nD τ sig Unit := tallyAt (rcvCell (peer d r) b d) () N

/-- What device `d` owes once both the others are told and block 0's sums are sent, once they are told, and at the start. -/
def O₂ (d : Dev nD) : CellTallies nD τ sig Unit := 0 + dues (toPost 1 d) distL
def O₁ (d : Dev nD) : CellTallies nD τ sig Unit := O₂ d + dues (toPost 0 d) distL
def O₀ (d : Dev nD) : CellTallies nD τ sig Unit := O₁ d + dues (toTell d) distL

theorem dues_apply (f : Fin 15 → CellTallies nD τ sig Unit) (g : GSem nD τ sig) (u : Unit) :
    ∀ l, dues f l g u = (l.map fun r => f r g u).sum
  | [] => rfl
  | r :: l => by rw [dues_cons, Pi.add_apply, Finsupp.add_apply, dues_apply f g u l, List.map_cons, List.sum_cons, Nat.add_comm]

theorem dues_pos {f : Fin 15 → CellTallies nD τ sig Unit} {g : GSem nD τ sig} {u : Unit} {l : List (Fin 15)} (h : 0 < dues f l g u) :
    ∃ r, 0 < f r g u := by
  by_contra hn
  rw [dues_apply, List.sum_eq_zero] at h
  · exact Nat.lt_irrefl 0 h
  · intro x hx
    obtain ⟨r, -, rfl⟩ := List.mem_map.mp hx
    exact Nat.eq_zero_of_not_pos fun hp => hn ⟨r, hp⟩

theorem tally_pos {g g' : GSem nD τ sig} {u : Unit} {n : ℕ} (h : 0 < (tallyAt g () n : CellTallies nD τ sig Unit) g' u) : g' = g := by
  by_contra hn
  rw [tallyAt_apply, if_neg fun h' => hn h'.1] at h
  exact Nat.lt_irrefl 0 h

theorem O₁_pos {d : Dev nD} {g : GSem nD τ sig} {u : Unit} (h : 0 < O₁ d g u) : ∃ b r, g = rcvCell (peer d r) b d := by
  unfold O₁ O₂ at h
  rw [zero_add, Pi.add_apply, Finsupp.add_apply] at h
  rcases Nat.pos_of_ne_zero (n := dues (toPost 1 d) distL g u) |> fun h' => (em (dues (toPost 1 d) distL g u = 0)).imp id h' with h1 | h1
  · rw [h1, Nat.zero_add] at h
    obtain ⟨r, hr⟩ := dues_pos h
    exact ⟨0, r, tally_pos hr⟩
  · obtain ⟨r, hr⟩ := dues_pos h1
    exact ⟨1, r, tally_pos hr⟩

theorem O₀_pos {d : Dev nD} {g : GSem nD τ sig} {u : Unit} (h : 0 < O₀ d g u) :
    (∃ b r, g = rcvCell (peer d r) b d) ∨ ∃ r, g = barCell (peer d r) := by
  unfold O₀ at h
  rw [Pi.add_apply, Finsupp.add_apply] at h
  rcases (em (O₁ d g u = 0)).imp id Nat.pos_of_ne_zero with h1 | h1
  · rw [h1, Nat.zero_add] at h
    obtain ⟨r, hr⟩ := dues_pos h
    exact .inr ⟨r, tally_pos hr⟩
  · exact .inl (O₁_pos h1)

/-- Meeting at 1, receives at 2, all else at 0. -/
def lvK : Option KI → ℕ
  | some (.inl _) => 1
  | some (.inr (.inr (.inr _))) => 2
  | _ => 0

def L (g : GSem nD τ sig) : Finset Unit := if g.1.2 = .tc then {()} else ∅
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kind_bar]; rfl
theorem lv_rcv (c : Dev nD) (b : Fin 2) (p : Dev nD) (u : Unit) : lv (rcvCell c b p) u = 2 := by unfold lv; rw [kind_rcv]; rfl

/-- A staging cell may be waited on at any time. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨b, r, rfl⟩ | ⟨r, rfl⟩ <;> exact Finset.mem_singleton_self _)
      (fun p hp => by rw [Finset.mem_singleton.mp hp]; dsimp only [lv]; rw [hq]; exact le_refl 0)
      (fun g u hg => by
        rcases O₀_pos hg with ⟨b, r, rfl⟩ | ⟨r, rfl⟩
        · rw [lv_rcv]; decide
        · rw [lv_bar]; decide)
  · rw [MayWait_zero]; iintro -; iempintro

/-- At the meeting a device owes receives only. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨b, r, rfl⟩ := O₁_pos hg; exact Finset.mem_singleton_self _)
    (fun p hp => by rw [Finset.mem_singleton.mp hp]; exact (lv_bar c ()).le)
    (fun g u hg => by obtain ⟨b, r, rfl⟩ := O₁_pos hg; rw [lv_rcv]; decide)

end Cert.SoftmaxKernelIdeal
-- ==== Proof.KernelIdealSteps.lean ====
/-
The rules of the body's steps: loads and stores of owned parts, and one rule per step of each walk, at a symbolic
device and a symbolic distance.
-/
module

public import proofs.«01_k».proof.Proof.KernelIdealProtocol

@[expose] public section

noncomputable section

namespace Cert.SoftmaxKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to `Q`. -/
abbrev runs (c : Dev nD) (p : Code F) (Q : PUnit → sProp 𝕄) : sProp 𝕄 :=
  wp frame (wpE (defs₀ (F := F)) 𝒱₀ (c : Thread nD τ) none) Set.univ p Q

/-! ## Owned parts -/

section Owned

variable (c : Dev nD) {sh : Shape} {e : EltTy} (mm : Memref sig .tc .vmem sh e) (q : PosShare TreeShare)

/-- A load of a part that is owned. -/
theorem load_part (r : Rect sh) (hr : ∀ a, r.stride a = 1) (X : r.shape.Idx → Elt F e) {hl : mm.view.LoadsAt r.toLoadRect}
    {k : (r.shape.Idx → Elt F e) → Code F} {Q : PUnit → sProp 𝕄} :
    (owns (c : Thread nD τ) (mm.slice r hr) q X : sProp 𝕄)
      ⊢ iprop((owns (c : Thread nD τ) (mm.slice r hr) q X -∗ runs c (k X) Q) -∗ runs c (.op (.load mm r.toLoadRect hl) k) Q) := by
  unfold owns
  iintro ⟨%f, %hf, H⟩ Hk
  iapply (wp_load_rect 𝒱₀ (c : Thread nD τ) none Set.univ (m := mm) (r := r) (Finset.Subset.refl _)) $$ H
  iintro H
  have hX : (mm.access r : View sig .tc _ _ _).read (Elt F) f = X := hf
  rw [hX]
  iapply Hk
  iexists f
  isplitr; · (ipureintro; exact hf)
  iexact H

/-- A load of a part of what is owned. -/
theorem load_within (r : Rect sh) (X : sh.Idx → Elt F e) {hl : mm.view.LoadsAt r.toLoadRect} {k : (r.shape.Idx → Elt F e) → Code F} {Q : PUnit → sProp 𝕄} :
    (owns (c : Thread nD τ) mm q X : sProp 𝕄)
      ⊢ iprop((owns (c : Thread nD τ) mm q X -∗ runs c (k fun j => X (r.emb j)) Q) -∗ runs c (.op (.load mm r.toLoadRect hl) k) Q) := by
  unfold owns
  iintro ⟨%f, %hf, H⟩ Hk
  iapply (wp_load_rect 𝒱₀ (c : Thread nD τ) none Set.univ (m := mm) (r := r) (View.set_slice_subset _ _)) $$ H
  iintro H
  have hX : (mm.access r : View sig .tc _ _ _).read (Elt F) f = fun j => X (r.emb j) := by rw [← hf]; rfl
  rw [hX]
  iapply Hk
  iexists f
  isplitr; · (ipureintro; exact hf)
  iexact H

/-- A store of a part that is owned. -/
theorem store_part (r : Rect sh) (hr : ∀ a, r.stride a = 1) (X w : r.shape.Idx → Elt F e) {hx : (mm.access r).Stores Finset.univ}
    {hm : Finset.univ = Finset.univ ∨ ∀ a, r.stride a = 1} {k : PUnit → Code F} {Q : PUnit → sProp 𝕄} :
    (owns (c : Thread nD τ) (mm.slice r hr) fullShare X : sProp 𝕄)
      ⊢ iprop((owns (c : Thread nD τ) (mm.slice r hr) fullShare w -∗ runs c (k ⟨⟩) Q) -∗ runs c (.op (.store mm r w Finset.univ hx hm) k) Q) := by
  unfold owns
  iintro ⟨%f, %hf, H⟩ Hk
  iapply (wp_store 𝒱₀ (c : Thread nD τ) none Set.univ (m := mm) (r := r) (Mk := Finset.univ) (S := (mm.slice r hr).view.set)
    (f := f) (show (mm.access r).setOn Finset.univ ⊆ (mm.slice r hr).view.set from Finset.Subset.refl _)) $$ H
  iintro H
  iapply Hk
  iexists _
  isplitr
  · ipureintro
    exact View.read_write_univ (Val := Elt F) (v := mm.access r) f w
  iexact H

end Owned

/-- The rectangle of a whole shape reads each element where it is. -/
theorem emb_unit_zero {s : Shape} {o : Fin s.rank → ℕ} (ho : o = fun _ => 0) (h : ∀ a, o a + s.size a ≤ s.size a) (j : s.Idx) :
    (Rect.unit (s := s) o s.size h).emb j = j := by
  subst ho
  funext a
  apply Fin.ext
  simp [Rect.emb, Rect.unit]

/-- A memref sliced whole is owned as it is. -/
theorem owns_slice_all (c : Dev nD) {sp : Space} {s : Shape} {e : EltTy} (mm : Memref sig .tc sp s e) (q : PosShare TreeShare)
    {o : Fin s.rank → ℕ} (ho : o = fun _ => 0) (h : ∀ a, o a + s.size a ≤ s.size a) (hr : ∀ a, (Rect.unit (s := s) o s.size h).stride a = 1)
    (X : s.Idx → Elt F e) :
    (owns (c : Thread nD τ) (mm.slice (Rect.unit (s := s) o s.size h) hr) q X : sProp 𝕄) = owns (c : Thread nD τ) mm q X := by
  have he : (mm.view.slice (Rect.unit (s := s) o s.size h)).set = mm.view.set := by
    rw [View.set_slice, ← Rect.map_emb_univ, Finset.map_map]
    refine congrArg (fun e => Finset.map e Finset.univ) (Function.Embedding.ext fun j => ?_)
    exact congrArg mm.view.emb (emb_unit_zero ho h j)
  have hread : ∀ f, (mm.view.slice (Rect.unit (s := s) o s.size h)).read (Elt F) f = mm.view.read (Elt F) f := fun f =>
    funext fun j => congrArg (mm.view.read (Elt F) f) (emb_unit_zero ho h j)
  unfold owns
  refine congrArg _ (funext fun f => ?_)
  show iprop(⌜(mm.view.slice (Rect.unit (s := s) o s.size h)).read (Elt F) f = X⌝ ∗ (mm.view.loc (c : Thread nD τ) ↦[(mm.view.slice (Rect.unit (s := s) o s.size h)).set]{q} f)) = _
  rw [he, hread]

end Cert.SoftmaxKernelIdeal
-- ==== Proof.KernelIdealParts.lean ====
/-
A device's buffers in parts: its tables row by row, the gathered rows and the result half by half, its row sums in
sixteen shares.
-/
module

public import proofs.«01_k».proof.Proof.KernelIdealSteps
public import Idealize.ShloMosaic.Lib.ValueLayout

@[expose] public section

noncomputable section

namespace Cert.SoftmaxKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- Every type of elements has one. -/
instance elt_nonempty : ∀ e : EltTy, Nonempty (Elt F e)
  | .i1 => ⟨(0 : BitVec 1)⟩ | .i4 => ⟨(0 : BitVec 4)⟩ | .i8 => ⟨(0 : BitVec 8)⟩ | .i16 => ⟨(0 : BitVec 16)⟩ | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩ | .bf16 => ⟨FloatOps.ofBits .bf16 0⟩ | .f16 => ⟨FloatOps.ofBits .f16 0⟩
  | .f32 => ⟨FloatOps.ofBits .f32 0⟩

/-! ## Rows -/

/-- Row `p` of a table, as a rectangle, -/
abbrev rowR (o : Fin 3 → ℕ) (h : ∀ a, o a + S1x8x128.size a ≤ S16x8x128.size a) : Rect S16x8x128 := Rect.unit (s := S16x8x128) o S1x8x128.size h
/-- and as a part of block `b`'s table, its unit axis kept. -/
abbrev rowU (b : Fin 2) (o : Fin 3 → ℕ) (h : ∀ a, o a + S1x8x128.size a ≤ S16x8x128.size a) : Memref sig .tc .vmem S1x8x128 .f32 :=
  (stM b).slice (rowR o h) (fun _ => rfl)

/-- A row without its unit axis is the row. -/
theorem owns_row (c : Dev nD) (b : Fin 2) (q : PosShare TreeShare) (o : Fin 3 → ℕ) (h : ∀ a, o a + S1x8x128.size a ≤ S16x8x128.size a)
    (Y : S1x8x128.Idx → Elt F .f32) :
    (owns (c : Thread nD τ) (rowU b o h) q Y : sProp 𝕄)
      = owns (c : Thread nD τ) (rowAt b o h) q (fun i => Y (Shape.reshapeEquiv squeezes_S1x8x128_S8x128.numel_eq i)) := by
  have hset : (rowAt b o h).view.set = (rowU b o h).view.set := View.set_reshape _ _
  have hread : ∀ f, (rowAt b o h).view.read (Elt F) f
      = fun i => (rowU b o h).view.read (Elt F) f (Shape.reshapeEquiv squeezes_S1x8x128_S8x128.numel_eq i) := fun f => rfl
  unfold owns
  refine congrArg _ (funext fun f => ?_)
  show _ = iprop(_ ∗ ((rowU b o h).view.loc (c : Thread nD τ) ↦[(rowAt b o h).view.set]{q} f))
  rw [hset, hread]
  have hiff : (((rowU b o h).view.read (Elt F) f = Y))
      = ((fun i => (rowU b o h).view.read (Elt F) f (Shape.reshapeEquiv squeezes_S1x8x128_S8x128.numel_eq i))
        = fun i => Y (Shape.reshapeEquiv squeezes_S1x8x128_S8x128.numel_eq i)) := by
    refine propext ⟨fun e => by rw [e], fun e => ?_⟩
    funext j
    have := congrFun e ((Shape.reshapeEquiv squeezes_S1x8x128_S8x128.numel_eq).symm j)
    simpa only [Equiv.apply_symm_apply] using this
  rw [hiff]

theorem rows_disjoint (p p' : Dev nD) (h : p ≠ p') : Disjoint (rowR ![p.val, 0, 0] (inb_row p)).set (rowR ![p'.val, 0, 0] (inb_row p')).set := by
  refine Rect.disjoint_of_axis _ _ (0 : Fin 3) fun j₁ h₁ j₂ h₂ => ?_
  have e1 : j₁ < 1 := h₁
  have e2 : j₂ < 1 := h₂
  show p.val + 1 * j₁ ≠ p'.val + 1 * j₂
  have hne : p.val ≠ p'.val := fun e => h (Fin.ext e)
  omega

theorem rows_cover : (Finset.univ : Finset (Dev nD)).biUnion (fun p => (rowR ![p.val, 0, 0] (inb_row p)).set) = Finset.univ := by
  ext i
  simp only [Finset.mem_biUnion, Finset.mem_univ, true_and, iff_true]
  refine ⟨i (0 : Fin 3), (LoadRect.mem_set _).mpr fun a => ?_⟩
  fin_cases a
  · exact ⟨0, Nat.one_pos, rfl⟩
  · exact ⟨(i (1 : Fin 3)).val, (i (1 : Fin 3)).isLt, ((Nat.zero_add _).trans (Nat.one_mul _)).symm⟩
  · exact ⟨(i (2 : Fin 3)).val, (i (2 : Fin 3)).isLt, ((Nat.zero_add _).trans (Nat.one_mul _)).symm⟩

/-- A table is its sixteen rows, -/
theorem st_split (c : Dev nD) (b : Fin 2) (X : S16x8x128.Idx → Elt F .f32) :
    (owns (c : Thread nD τ) (stM b) fullShare X : sProp 𝕄) ⊢ bigSep Finset.univ fun p : Dev nD => iprop(∃ Y, owns (c : Thread nD τ) (rowM b p) fullShare Y) :=
  (owns_rects (c : Thread nD τ) (stM b) fullShare (fun p : Dev nD => rowR ![p.val, 0, 0] (inb_row p)) (fun _ _ => rfl) rows_disjoint rows_cover X).trans
    (bigSep_mono fun p _ => by
      refine (Entails.of_eq (owns_row c b fullShare _ (inb_row p) _)).trans ?_
      iintro H; iexists _; iexact H)

variable (m : (ℓ : Loc nD τ sig) → Buf (Elt F) ℓ)

theorem stats_row (b : Fin 2) (p : Dev nD) (i : S8x128.Idx) :
    stats m b ((rowR ![p.val, 0, 0] (inb_row p)).emb (Shape.reshapeEquiv squeezes_S1x8x128_S8x128.numel_eq i)) = stat m p b i := by
  have e : (Shape.reshapeEquiv squeezes_S1x8x128_S8x128.numel_eq i : S1x8x128.Idx) = ix3 (⟨0, Nat.one_pos⟩ : Fin 1) (i (0 : Fin 2)) (i (1 : Fin 2)) := by
    have hi : i = ix2 (i (0 : Fin 2)) (i (1 : Fin 2)) := by funext a; fin_cases a <;> rfl
    rw [hi]; exact reshapeEquiv_ix2_1ab _ _ _
  rw [e]
  unfold stats
  have h0 : ((rowR ![p.val, 0, 0] (inb_row p)).emb (ix3 (⟨0, Nat.one_pos⟩ : Fin 1) (i (0 : Fin 2)) (i (1 : Fin 2)))) (0 : Fin 3) = p := Fin.ext rfl
  have h1 : place ((rowR ![p.val, 0, 0] (inb_row p)).emb (ix3 (⟨0, Nat.one_pos⟩ : Fin 1) (i (0 : Fin 2)) (i (1 : Fin 2)))) = i := by
    funext a
    apply Fin.ext
    fin_cases a
    · show 0 + 1 * (i (0 : Fin 2)).val = _; simp
    · show 0 + 1 * (i (1 : Fin 2)).val = _; simp
  exact (congrArg (stat m _ b) h1).trans (congrArg (fun p => stat m p b i) h0)

/-- and its sixteen rows, each with its device's row sums, are the table of all of them. -/
theorem st_join (c : Dev nD) (b : Fin 2) :
    (bigSep Finset.univ fun p : Dev nD => (owns (c : Thread nD τ) (rowM b p) fullShare (stat m p b) : sProp 𝕄)) ⊢ owns (c : Thread nD τ) (stM b) fullShare (stats m b) := by
  refine BIBase.Entails.trans ?_ (owns_of_rects (c : Thread nD τ) (stM b) fullShare (fun p : Dev nD => rowR ![p.val, 0, 0] (inb_row p)) (fun _ _ => rfl) rows_disjoint rows_cover (stats m b))
  refine Entails.of_eq (bigSep_congr fun p _ => ?_)
  rw [owns_row c b fullShare _ (inb_row p)]
  exact congrArg _ (funext fun i => (stats_row m b p i).symm)

/-! ## Halves -/

theorem halves_disjoint (b b' : Fin 2) (h : b ≠ b') : Disjoint (halfR b).set (halfR b').set := by
  refine Rect.disjoint_of_axis _ _ (0 : Fin 2) fun j₁ h₁ j₂ h₂ => ?_
  have e1 : j₁ < 1024 := h₁
  have e2 : j₂ < 1024 := h₂
  show 1024 * b.val + 1 * j₁ ≠ 1024 * b'.val + 1 * j₂
  have hne : b.val ≠ b'.val := fun e => h (Fin.ext e)
  omega

theorem halves_cover : (Finset.univ : Finset (Fin 2)).biUnion (fun b => (halfR b).set) = Finset.univ := by
  ext i
  simp only [Finset.mem_biUnion, Finset.mem_univ, true_and, iff_true]
  have h0 : (i (0 : Fin 2)).val < 2048 := (i (0 : Fin 2)).isLt
  refine ⟨⟨(i (0 : Fin 2)).val / 1024, by omega⟩, (LoadRect.mem_set _).mpr fun a => ?_⟩
  fin_cases a
  · exact ⟨(i (0 : Fin 2)).val % 1024, Nat.mod_lt _ (by decide), by show (i (0 : Fin 2)).val = 1024 * ((i (0 : Fin 2)).val / 1024) + 1 * _; omega⟩
  · exact ⟨(i (1 : Fin 2)).val, (i (1 : Fin 2)).isLt, ((Nat.zero_add _).trans (Nat.one_mul _)).symm⟩

/-- A row within its block. -/
def inner (i : S2048x1024.Idx) : S1024x1024.Idx :=
  ix2 (⟨(i (0 : Fin 2)).val % 1024, Nat.mod_lt _ (by decide)⟩ : Fin 1024) (i (1 : Fin 2) : Fin 1024)
/-- Which block a row is in. -/
def outer (i : S2048x1024.Idx) : Fin 2 := ⟨(i (0 : Fin 2)).val / 1024, by have h0 : (i (0 : Fin 2)).val < 2048 := (i (0 : Fin 2)).isLt; omega⟩

theorem outer_emb (b : Fin 2) (j : S1024x1024.Idx) : outer ((halfR b).emb j) = b := by
  apply Fin.ext
  have h0 : (j (0 : Fin 2)).val < 1024 := (j (0 : Fin 2)).isLt
  show (1024 * b.val + 1 * (j (0 : Fin 2)).val) / 1024 = b.val
  omega
theorem inner_emb (b : Fin 2) (j : S1024x1024.Idx) : inner ((halfR b).emb j) = j := by
  funext a
  apply Fin.ext
  have h0 : (j (0 : Fin 2)).val < 1024 := (j (0 : Fin 2)).isLt
  fin_cases a
  · show (1024 * b.val + 1 * (j (0 : Fin 2)).val) % 1024 = (j (0 : Fin 2)).val; omega
  · show 0 + 1 * (j (1 : Fin 2)).val = (j (1 : Fin 2)).val; omega

/-- Two halves in one. -/
def both {α : Type} (Y : Fin 2 → S1024x1024.Idx → α) : S2048x1024.Idx → α := fun i => Y (outer i) (inner i)

theorem both_emb {α : Type} (Y : Fin 2 → S1024x1024.Idx → α) (b : Fin 2) : (fun j => both Y ((halfR b).emb j)) = Y b := by
  funext j; unfold both; rw [outer_emb, inner_emb]

section Halves

variable (c : Dev nD) {sp : Space} (mm : Memref sig .tc sp S2048x1024 .bf16)

theorem half_split (X : S2048x1024.Idx → Elt F .bf16) :
    (owns (c : Thread nD τ) mm fullShare X : sProp 𝕄)
      ⊢ iprop((∃ Y, owns (c : Thread nD τ) (mm.slice (halfR 0) (fun _ => rfl)) fullShare Y) ∗ ∃ Y, owns (c : Thread nD τ) (mm.slice (halfR 1) (fun _ => rfl)) fullShare Y) := by
  refine (owns_rects (c : Thread nD τ) mm fullShare halfR (fun _ _ => rfl) halves_disjoint halves_cover X).trans ?_
  rw [bigSep_two]
  iintro ⟨H0, H1⟩
  isplitl [H0]; · iexists _; iexact H0
  iexists _; iexact H1

theorem half_join (Y : Fin 2 → S1024x1024.Idx → Elt F .bf16) :
    iprop(owns (c : Thread nD τ) (mm.slice (halfR 0) (fun _ => rfl)) fullShare (Y 0) ∗ owns (c : Thread nD τ) (mm.slice (halfR 1) (fun _ => rfl)) fullShare (Y 1))
      ⊢ (owns (c : Thread nD τ) mm fullShare (both Y) : sProp 𝕄) := by
  refine BIBase.Entails.trans ?_ (owns_of_rects (c : Thread nD τ) mm fullShare halfR (fun _ _ => rfl) halves_disjoint halves_cover (both Y))
  rw [bigSep_two, both_emb, both_emb]

end Halves

/-! ## Shares -/

/-- Row sums are owned in sixteen shares. -/
theorem my_parts (c : Dev nD) (b : Fin 2) (X : S8x128.Idx → Elt F .f32) :
    (owns (c : Thread nD τ) (myM b) fullShare X : sProp 𝕄) = bigSep Finset.univ fun o : Dev nD => owns (c : Thread nD τ) (myM b) (part o) X := by
  fin_cases b
  · show (owns (c : Thread nD τ) (Memref.whole cc0_scratch1) fullShare X : sProp 𝕄)
      = bigSep Finset.univ fun o : Dev nD => owns (c : Thread nD τ) (Memref.whole cc0_scratch1) (part o) X
    simp only [owns_whole]
    exact ShareLeaves.pointsTo_leaves _ _ 4 _
  · show (owns (c : Thread nD τ) (Memref.whole cc0_scratch2) fullShare X : sProp 𝕄)
      = bigSep Finset.univ fun o : Dev nD => owns (c : Thread nD τ) (Memref.whole cc0_scratch2) (part o) X
    simp only [owns_whole]
    exact ShareLeaves.pointsTo_leaves _ _ 4 _

/-- A device's row of sums, with its unit axis or without. -/
theorem stat_row0 (x : Vec F S1024x1024 .f32) :
    (fun i => k0_pay5 x (Shape.reshapeEquiv squeezes_S1x8x128_S8x128.numel_eq i)) = k0_pay4 x := by
  funext i
  simp only [k0_pay5, k0_pay4, shapeCast, Shape.reshapeEquiv_reshapeEquiv, Shape.reshapeEquiv_self]
theorem stat_row1 (x : FVec F S8x128 .f32) :
    (fun i => k0_pay10 x (Shape.reshapeEquiv squeezes_S1x8x128_S8x128.numel_eq i)) = k0_pay9 x := by
  funext i
  simp only [k0_pay10, k0_pay9, shapeCast, Shape.reshapeEquiv_reshapeEquiv, Shape.reshapeEquiv_self]

end Cert.SoftmaxKernelIdeal
-- ==== Proof.KernelIdealWalks.lean ====
/-
The walks: a run of like steps, by induction over its list, from one step's rule at a symbolic device and distance.
-/
module

public import proofs.«01_k».proof.Proof.KernelIdealParts

@[expose] public section

noncomputable section

namespace Cert.SoftmaxKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device may read of the cells -/

/-- Every cell's invariant, under the names `K`, and that every cell is in its round. -/
def records (K : Dev nD × KI → ℕ) : sProp 𝕄 :=
  iprop((bigSep Finset.univ fun ck : Dev nD × KI => cellInv ER (Rd m) (K ck) (kcell ck))
    ∗ bigSep Finset.univ fun ck : Dev nD × KI => reached ER (kcell ck) 0)

instance records_persistent (K : Dev nD × KI → ℕ) : BI.Persistent (records m K) := by unfold records; infer_instance

theorem inv_at (K : Dev nD × KI → ℕ) (ck : Dev nD × KI) : records m K ⊢ cellInv ER (Rd m) (K ck) (kcell ck) := by
  unfold records
  iintro ⟨H, -⟩
  iapply (show _ ⊢ _ from bigSep_elim (Finset.mem_univ ck) (Φ := fun ck : Dev nD × KI => cellInv ER (Rd m) (K ck) (kcell ck))); iexact H
theorem reached_at (K : Dev nD × KI → ℕ) (ck : Dev nD × KI) : records m K ⊢ reached ER (kcell ck) 0 := by
  unfold records
  iintro ⟨-, H⟩
  iapply (show _ ⊢ _ from bigSep_elim (Finset.mem_univ ck) (Φ := fun ck : Dev nD × KI => (reached ER (kcell ck) 0 : sProp 𝕄))); iexact H

abbrev kBar : KI := .inl ()
abbrev kOut (b : Fin 2) : KI := .inr (.inl b)
abbrev kSnd (b : Fin 2) (o : Dev nD) : KI := .inr (.inr (.inl (b, o)))
abbrev kRcv (b : Fin 2) (p : Dev nD) : KI := .inr (.inr (.inr (b, p)))

/-! ## A walk -/

/-- A walk takes each entry's needs to its yields, keeping an account that each step moves on by one. -/
theorem wp_walk {ι : Type} (c : Dev nD) (s : ι → Code F → Code F) (R : sProp 𝕄) [BI.Persistent R] (I : List ι → sProp 𝕄) (pre post : ι → sProp 𝕄) (Q : PUnit → sProp 𝕄)
    (step : ∀ i l k, iprop(R ∗ I (i :: l) ∗ pre i) ⊢ iprop(((I l ∗ post i) -∗ runs c k Q) -∗ runs c (s i k) Q)) (k : Code F) :
    ∀ l, iprop(R ∗ I l ∗ bigSepL l pre) ⊢ iprop(((I [] ∗ bigSepL l post) -∗ runs c k Q) -∗ runs c (walk s l k) Q)
  | [] => by
    show _ ⊢ iprop(_ -∗ runs c k Q)
    iintro ⟨-, HI, -⟩ Hk
    iapply Hk
    isplitl; · iexact HI
    rw [bigSepL_nil]; iempintro
  | i :: l => by
    rw [bigSepL_cons', bigSepL_cons']
    show _ ⊢ iprop(_ -∗ runs c (s i (walk s l k)) Q)
    iintro ⟨#HR, HI, Hi, Hl⟩ Hk
    iapply (step i l (walk s l k)) $$ [HI Hi]
    · isplitr; · iexact HR
      isplitl [HI] <;> iassumption
    iintro ⟨HI, Hp⟩
    iapply (wp_walk c s R I pre post Q step k l) $$ [HI Hl]
    · isplitr; · iexact HR
      isplitl [HI] <;> iassumption
    iintro ⟨HI, Hps⟩
    iapply Hk
    isplitl [HI]; · iexact HI
    isplitl [Hp] <;> iassumption

/-- What device `c` owes, with whatever it has waited on. -/
def owing (c : Dev nD) (O : CellTallies nD τ sig Unit) : sProp 𝕄 := iprop(∃ W : Waits sig Unit, owes (c : Thread nD τ) O W)

section Walks

variable (K : Dev nD × KI → ℕ) (c : Dev nD)

/-! ## Telling -/

theorem tell_step (Q : PUnit → sProp 𝕄) (r : Fin 15) (O : CellTallies nD τ sig Unit) (k : Code F) :
    iprop(records m K ∗ owing c (O + toTell c r) ∗ (dutyTok ER (barCell (peer c r)) 0 c ∗ barPay (peer c r) c))
      ⊢ iprop(((owing c O ∗ emp) -∗ runs c k Q) -∗ runs c (tell (peer c r) k) Q) := by
  unfold owing tell
  iintro ⟨#HR, ⟨%W, HO⟩, Htok, Hpay⟩ Hk
  iapply (Rounds.wp_signal 𝒱₀ ER (Rd m) (c : Thread nD τ) none (dst := (peer c r : Thread nD τ)) (κ := K (peer c r, kBar))
      (d := c) (by rw [duties_bar]; exact Finset.mem_erase.mpr ⟨(peer_ne c r).symm, Finset.mem_univ _⟩) ((amount_bar m (peer c r) c).trans (by decide)) () O rfl)
    $$ [HO Htok Hpay]
  · isplitr; · iapply (inv_at m K (peer c r, kBar)); iexact HR
    isplitl [HO]; · iexact HO
    isplitl [Htok]; · iexact Htok
    isplitl [Hpay]; · rw [payload_bar]; iexact Hpay
    iapply (reached_at m K (peer c r, kBar)); iexact HR
  iintro HO
  iapply Hk
  isplitl; · iexists W; iexact HO
  iempintro

theorem tellL_eq (d : Dev nD) : tellL d = distL.map (peer d) := by revert d; decide
theorem postL0_eq (d : Dev nD) : postL0 d = distL.map fun r => (r, peer d r) := by revert d; decide
theorem postL1_eq (d : Dev nD) : postL1 d = distL.map fun r => (r, peer d r) := by revert d; decide

theorem walk_map {ι κ : Type} (g : κ → ι) (s : ι → Code F → Code F) (l : List κ) (k : Code F) : walk s (l.map g) k = walk (fun x => s (g x)) l k :=
  List.foldr_map

theorem tell_walk (Q : PUnit → sProp 𝕄) (k : Code F) :
    iprop(records m K ∗ owing c (O₀ c) ∗ bigSepL distL fun r => iprop(dutyTok ER (barCell (peer c r)) 0 c ∗ barPay (peer c r) c))
      ⊢ iprop((owing c (O₁ c) -∗ runs c k Q) -∗ runs c (walk tell (tellL c) k) Q) := by
  rw [tellL_eq, walk_map]
  iintro ⟨#HR, HO, Hl⟩ Hk
  iapply (wp_walk c (fun r => tell (peer c r)) (records m K) (fun l => owing c (O₁ c + dues (toTell c) l))
    (fun r => iprop(dutyTok ER (barCell (peer c r)) 0 c ∗ barPay (peer c r) c)) (fun _ => iprop(emp)) Q
    (fun r l k => by rw [dues_cons, ← add_assoc]; exact tell_step m K c Q r _ k) k distL) $$ [HO Hl]
  · isplitr; · iexact HR
    isplitl [HO]; · iexact HO
    iexact Hl
  iintro ⟨HO, -⟩
  iapply Hk
  rw [dues_nil, add_zero]; iexact HO

/-! ## Sending -/

theorem place_ne (r : Fin 15) : peer 0 r ≠ 0 := peer_ne 0 r
theorem semAt_congr (s : DmaSems sig S16) {o o' : Fin 1 → ℕ} (e : o = o') (h : ∀ a, o a + S1.size a ≤ S16.size a) (h' : ∀ a, o' a + S1.size a ≤ S16.size a) :
    semAt s o h = semAt s o' h' := by subst e; rfl
theorem place_off (r : Fin 15) : (![1 + r.val] : Fin 1 → ℕ) = ![(peer 0 r).val] := by revert r; decide
theorem off2_eq (d : Dev nD) : k0_off2 d = ![d.val] := by revert d; decide
theorem off3_eq (d : Dev nD) : k0_off3 d = ![d.val, 0, 0] := by revert d; decide
theorem off1_eq (d : Dev nD) : k0_off1 d = ![d.val, 0, 0] := by revert d; decide
theorem off4_eq (d : Dev nD) (r : Fin 15) : k0_off4 d (BitVec.ofNat 32 (1 + r.val)) = ![(peer d r).val] := by revert d r; decide

/-- One device's sums sent: its share goes with the copy, the row it lands in comes from the receiver. -/
theorem send_rule (Q : PUnit → sProp 𝕄) (b : Fin 2) (r : Fin 15) (O : CellTallies nD τ sig Unit) (k : Code F) {o3 : Fin 3 → ℕ} (e3 : o3 = ![c.val, 0, 0]) {h3 : ∀ a, o3 a + S1x8x128.size a ≤ S16x8x128.size a}
    {sS sR : DmaSem sig} (eS : sS = sndS b (peer 0 r)) (eR : sR = rcvS b c) {hsc : (rowAt b o3 h3).view.ref.isScScratch = false}
    {hsrc : (myM b).view.WordExact} {hdst : (rowAt b o3 h3).view.WordExact}
    {hsem : DmaTarget.Typed .vmem (.dma sR) (.remote (Dev.tc (peer c r) : Thread nD τ) (rowAt b o3 h3) (.dma sS) hsc)} :
    iprop(records m K ∗ owing c (O + toPost b c r) ∗ (dutyTok ER (rcvCell (peer c r) b c) 0 c ∗ dutyTok ER (sndCell c b (peer 0 r)) 0 c
        ∗ (∃ X, owns (peer c r : Thread nD τ) (rowM b c) fullShare X) ∗ owns (c : Thread nD τ) (myM b) (part (peer 0 r)) (stat m c b)))
      ⊢ iprop(((owing c O ∗ cred (tallyAt (sndCell c b (peer 0 r)) () N)) -∗ runs c k Q)
        -∗ runs c (.op (.enqueueDma (myM b) (.remote (Dev.tc (peer c r)) (rowAt b o3 h3) (.dma sS) hsc) (.dma sR) hsrc hdst hsem) fun _ => k) Q) := by
  subst e3 eS eR
  unfold owing owns
  iintro ⟨#HR, ⟨%W, HO⟩, HtR, HtS, ⟨%X, %fd, %hX, Hd⟩, %fs, %hs, Hs⟩ Hk
  iapply (Rounds.wp_send_pointsTo 𝒱₀ ER (Rd m) (c : Thread nD τ) none (c' := (peer c r : Thread nD τ)) (κ₁ := K (c, kSnd b (peer 0 r))) (κ₂ := K (peer c r, kRcv b c))
    (r₁ := 0) (r₂ := 0) (d₁ := c) (d₂ := c) (fd := fd) (fs := fs)
    (by rw [duties_snd m c b _ (place_ne r)]; exact Finset.mem_singleton_self _)
    (by rw [duties_rcv m (peer c r) b c (peer_ne c r).symm]; exact Finset.mem_singleton_self _)
    () () N (by exact credit_row b _ _) (amount_snd m c b _ c) (amount_rcv m (peer c r) b c c) O rfl (W := W)
    (by
      rw [payload_snd]; unfold sndPay owns
      iintro H; iexists fs
      isplitr; · (ipureintro; exact hs)
      iexact H)
    (by
      rw [payload_rcv]; unfold rcvPay owns
      iintro H; iexists _
      isplitr
      · ipureintro
        exact (View.read_write_univ (v := (rowM b c).view) fd _).trans hs
      iexact H)) $$ [HO HtR HtS Hd Hs]
  · isplitr; · iapply (inv_at m K (c, kSnd b (peer 0 r))); iexact HR
    isplitr; · iapply (inv_at m K (peer c r, kRcv b c)); iexact HR
    isplitl [Hs]; · iexact Hs
    isplitl [Hd]; · iexact Hd
    isplitl [HO]; · iexact HO
    isplitl [HtS]; · iexact HtS
    isplitr; · iapply (reached_at m K (c, kSnd b (peer 0 r))); iexact HR
    isplitl [HtR]; · iexact HtR
    iapply (reached_at m K (peer c r, kRcv b c)); iexact HR
  iintro ⟨Hc, HO⟩
  iapply Hk
  isplitl [HO]; · iexists W; iexact HO
  iexact Hc

/-- What a send needs. -/
def postPre (b : Fin 2) (r : Fin 15) : sProp 𝕄 :=
  iprop(dutyTok ER (rcvCell (peer c r) b c) 0 c ∗ dutyTok ER (sndCell c b (peer 0 r)) 0 c
        ∗ (∃ X, owns (peer c r : Thread nD τ) (rowM b c) fullShare X) ∗ owns (c : Thread nD τ) (myM b) (part (peer 0 r)) (stat m c b))

theorem post_walk (Q : PUnit → sProp 𝕄) (b : Fin 2) (O : CellTallies nD τ sig Unit) (k : Code F) :
    iprop(records m K ∗ owing c (O + dues (toPost b c) distL) ∗ bigSepL distL (postPre m c b))
      ⊢ iprop(((owing c O ∗ bigSepL distL fun r => cred (tallyAt (sndCell c b (peer 0 r)) () N)) -∗ runs c k Q)
        -∗ runs c (walk (fun r => post b c (r, peer c r)) distL k) Q) := by
  iintro ⟨#HR, HO, Hl⟩ Hk
  iapply (wp_walk c (fun r => post b c (r, peer c r)) (records m K) (fun l => owing c (O + dues (toPost b c) l))
    (postPre m c b) (fun r => cred (tallyAt (sndCell c b (peer 0 r)) () N)) Q
    (fun r l k => by
      rw [dues_cons, ← add_assoc]
      unfold postPre post
      exact send_rule m K c Q b r _ k (off3_eq c) (semAt_congr _ (place_off r) _ _) (semAt_congr _ (off2_eq c) _ _)) k distL) $$ [HO Hl]
  · isplitr; · iexact HR
    isplitl [HO] <;> iassumption
  iintro ⟨HO, Hp⟩
  iapply Hk
  isplitl [HO]; · rw [dues_nil, add_zero]; iexact HO
  iexact Hp

/-! ## Receiving, and the sends' own waits -/

/-- A cell waited for: what it brought, and its counter at zero for good. -/
theorem wait_rule (Q : PUnit → sProp 𝕄) (x : KI) (n : ℕ) (k : Code F) (P : sProp 𝕄) (w : TpuEff nD τ sig (Elt F) Λ₀ .tc PUnit)
    (hw : ∀ K' : PUnit → sProp 𝕄, wpE (defs₀ (F := F)) 𝒱₀ (c : Thread nD τ) none Set.univ w K' = waitSpec (c : Thread nD τ) Set.univ (csem x) n K')
    (hn : (Rd m).expect (kcell (c, x)) 0 = n)
    (hP : bigSep ((Rd m).duties (kcell (c, x)) 0 \ ∅) (fun d => (Rd m).payload (kcell (c, x)) 0 d) = P) (O : CellTallies nD τ sig Unit) :
    iprop(records m K ∗ owing c O ∗ MayWait (c : Thread nD τ) (csem x) () O ∗ cred (tallyAt (kcell (c, x)) () n) ∗ atPos ER (kcell (c, x)) 0 ∅ 0)
      ⊢ iprop(((owing c O ∗ semVal (kcell (c, x)) 0 ∗ P) -∗ runs c k Q) -∗ runs c (.op w fun _ => k) Q) := by
  unfold owing
  iintro ⟨#HR, ⟨%W, HO⟩, Hmw, Hc, Hat⟩ Hk
  iapply (Rounds.wp_wait_rest_token 𝒱₀ ER (Rd m) (c : Thread nD τ) none (κ := K (c, x)) hw (Set.mem_univ _) () (O := O) (W := W) (R := 0) (m := 0) (T := ∅)
      (by rw [Nat.zero_add]; exact hn.symm)) $$ [Hmw Hc HO Hat]
  · isplitr; · iapply (inv_at m K (c, x)); iexact HR
    isplitl [Hc]; · iexact Hc
    isplitl [HO]; · iexact HO
    isplitl [Hmw]; · iexact Hmw
    iexact Hat
  iintro ⟨HO, Hat, -, Hpay⟩
  ihave Hp := (Entails.of_eq hP) $$ Hpay
  imod (Rounds.cell_close ER (Rd m) (Set.mem_univ (K (c, x))) (fun h => h) (R := 0 + 1) (duties_later m (kcell (c, x)))) $$ [Hat] with Hz
  · isplitr; · iapply (inv_at m K (c, x)); iexact HR
    iexact Hat
  iapply Hk
  isplitl [HO]; · iexists _; iexact HO
  isplitl [Hz] <;> iassumption

theorem take_walk (Q : PUnit → sProp 𝕄) (b : Fin 2) (k : Code F) :
    iprop(records m K ∗ owing c 0 ∗ bigSepL distL fun r => iprop(cred (tallyAt (rcvCell c b (peer c r)) () N) ∗ atPos ER (rcvCell c b (peer c r)) 0 ∅ 0))
      ⊢ iprop(((owing c 0 ∗ bigSepL distL fun r => iprop(semVal (rcvCell c b (peer c r)) 0 ∗ rcvPay m c b (peer c r))) -∗ runs c k Q)
        -∗ runs c (walk (take b c) distL k) Q) :=
  wp_walk c (take b c) (records m K) (fun _ => owing c 0)
    (fun r => iprop(cred (tallyAt (rcvCell c b (peer c r)) () N) ∗ atPos ER (rcvCell c b (peer c r)) 0 ∅ 0))
    (fun r => iprop(semVal (rcvCell c b (peer c r)) 0 ∗ rcvPay m c b (peer c r))) Q
    (fun r l k => by
      unfold take
      have es : semAt (rsM b) (k0_off4 c (BitVec.ofNat 32 (1 + r.val))) (k0_off4_inb c r) = rcvS b (peer c r) := semAt_congr _ (off4_eq c r) _ _
      iintro ⟨#HR, HO, Hc, Hat⟩ Hk
      iapply (wait_rule m K c Q (kRcv b (peer c r)) N k (rcvPay m c b (peer c r)) _
        (fun K' => (wpE_waitDma2_eq 𝒱₀ (c : Thread nD τ) none Set.univ K').trans (by rw [es, credit_row])) (expect_rcv m c b _ (peer_ne c r)) (rest_rcv m c b _ (peer_ne c r)) 0) $$ [HO Hc Hat]
      · isplitr; · iexact HR
        isplitl [HO]; · iexact HO
        isplitr; · rw [MayWait_zero]; iempintro
        isplitl [Hc] <;> iassumption
      iexact Hk) k distL

theorem gone_walk (Q : PUnit → sProp 𝕄) (b : Fin 2) (k : Code F) :
    iprop(records m K ∗ owing c 0 ∗ bigSepL distL fun r => iprop(cred (tallyAt (sndCell c b (peer 0 r)) () N) ∗ atPos ER (sndCell c b (peer 0 r)) 0 ∅ 0))
      ⊢ iprop(((owing c 0 ∗ bigSepL distL fun r => iprop(semVal (sndCell c b (peer 0 r)) 0 ∗ sndPay m c b (peer 0 r))) -∗ runs c k Q)
        -∗ runs c (walk (gone b c) distL k) Q) :=
  wp_walk c (gone b c) (records m K) (fun _ => owing c 0)
    (fun r => iprop(cred (tallyAt (sndCell c b (peer 0 r)) () N) ∗ atPos ER (sndCell c b (peer 0 r)) 0 ∅ 0))
    (fun r => iprop(semVal (sndCell c b (peer 0 r)) 0 ∗ sndPay m c b (peer 0 r))) Q
    (fun r l k => by
      unfold gone
      have es : semAt (ssM b) ![1 + r.val] (inb_dist r) = sndS b (peer 0 r) := semAt_congr _ (place_off r) _ _
      iintro ⟨#HR, HO, Hc, Hat⟩ Hk
      iapply (wait_rule m K c Q (kSnd b (peer 0 r)) N k (sndPay m c b (peer 0 r)) _
        (fun K' => (wpE_waitDma2_eq 𝒱₀ (c : Thread nD τ) none Set.univ K').trans (by rw [es, credit_my])) (expect_snd m c b _ (place_ne r)) (rest_snd m c b _ (place_ne r)) 0) $$ [HO Hc Hat]
      · isplitr; · iexact HR
        isplitl [HO]; · iexact HO
        isplitr; · rw [MayWait_zero]; iempintro
        isplitl [Hc] <;> iassumption
      iexact Hk) k distL

/-! ## The meeting, and the ways out -/

theorem meet_rule (Q : PUnit → sProp 𝕄) (k : Code F) :
    iprop(records m K ∗ levAts L lv ∗ owing c (O₁ c) ∗ cred (tallyAt (barCell c) () 15) ∗ atPos ER (barCell c) 0 ∅ 0)
      ⊢ iprop(((owing c (O₁ c) ∗ semVal (barCell c) 0 ∗ bigSepL distL fun r => barPay c (peer c r)) -∗ runs c k Q) -∗ runs c (meet k) Q) := by
  unfold meet
  iintro ⟨#HR, #Hlev, HO, Hc, Hat⟩ Hk
  iapply (wait_rule m K c Q kBar 15 k _ _ (wpE_semWait_eq 𝒱₀ (c : Thread nD τ) none Set.univ) (expect_bar m c) (rest_bar m c) (O₁ c)) $$ [HO Hc Hat]
  · isplitr; · iexact HR
    isplitl [HO]; · iexact HO
    isplitr; · iapply (mayWait_bar c); iexact Hlev
    isplitl [Hc] <;> iassumption
  iexact Hk

theorem emit_rule (Q : PUnit → sProp 𝕄) (b : Fin 2) (k : Code F) :
    iprop(records m K ∗ dutyTok ER (outCell c b) 0 c ∗ owns (c : Thread nD τ) (oH b) fullShare (outW m c b) ∗ (∃ X, owns (c : Thread nD τ) (rH b) fullShare X))
      ⊢ iprop((cred (tallyAt (outCell c b) () NO) -∗ runs c k Q) -∗ runs c (emitOut b k) Q) := by
  unfold emitOut owns
  iintro ⟨#HR, Htok, ⟨%fs, %hs, Hs⟩, %X, %fd, %hX, Hd⟩ Hk
  iapply (Rounds.wp_copy_pointsTo 𝒱₀ ER (Rd m) (c : Thread nD τ) none (κ := K (c, kOut b)) (r := 0) (d := c) (fd := fd) (fs := fs)
    (by rw [duties_out]; exact Finset.mem_singleton_self _) () NO (by exact credit_out b) (amount_out m c b c)
    (by
      rw [payload_out]; unfold outPay owns
      iintro ⟨H1, H2⟩
      isplitl [H1]
      · iexists _
        isplitr
        · ipureintro
          exact (View.read_write_univ (v := (rH b).view) fd _).trans hs
        iexact H1
      iexists fs
      isplitr; · (ipureintro; exact hs)
      iexact H2)) $$ [Htok Hs Hd]
  · isplitr; · iapply (inv_at m K (c, kOut b)); iexact HR
    isplitl [Hs]; · iexact Hs
    isplitl [Hd]; · iexact Hd
    isplitl [Htok]; · iexact Htok
    iapply (reached_at m K (c, kOut b)); iexact HR
  iexact Hk

theorem waitOut_rule (Q : PUnit → sProp 𝕄) (b : Fin 2) (k : Code F) :
    iprop(records m K ∗ owing c 0 ∗ cred (tallyAt (outCell c b) () NO) ∗ atPos ER (outCell c b) 0 ∅ 0)
      ⊢ iprop(((owing c 0 ∗ semVal (outCell c b) 0 ∗ outPay m c b) -∗ runs c k Q) -∗ runs c (waitOut b k) Q) := by
  unfold waitOut
  iintro ⟨#HR, HO, Hc, Hat⟩ Hk
  iapply (wait_rule m K c Q (kOut b) NO k _ _ (fun K' => (wpE_waitDma2_eq 𝒱₀ (c : Thread nD τ) none Set.univ K').trans (by rw [credit_out])) (expect_out m c b) (rest_out m c b) 0) $$ [HO Hc Hat]
  · isplitr; · iexact HR
    isplitl [HO]; · iexact HO
    isplitr; · rw [MayWait_zero]; iempintro
    isplitl [Hc] <;> iassumption
  iexact Hk

end Walks

end Cert.SoftmaxKernelIdeal
-- ==== Proof.KernelIdealStretches.lean ====
/-
The stretches between the walks, and the four phases of a block: computed, sent, finished, settled. Each is proved once for both blocks.
-/
module

public import proofs.«01_k».proof.Proof.KernelIdealWalks

@[expose] public section

noncomputable section

namespace Cert.SoftmaxKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem sep_swap (A B C D : sProp 𝕄) : iprop((A ∗ B) ∗ C ∗ D) ⊢ iprop((A ∗ C) ∗ B ∗ D) := by
  iintro ⟨⟨H1, H2⟩, H3, H4⟩
  isplitl [H1 H3]
  · isplitl [H1] <;> iassumption
  isplitl [H2] <;> iassumption

theorem bigSepL_both {ι : Type} (Φ Ψ : ι → sProp 𝕄) : ∀ l : List ι, bigSepL l (fun i => iprop(Φ i ∗ Ψ i)) = iprop(bigSepL l Φ ∗ bigSepL l Ψ)
  | [] => by
    have h1 : (iprop(emp) : sProp 𝕄) ⊢ iprop(emp ∗ emp) := by iintro -; isplitl <;> iempintro
    have h2 : iprop(emp ∗ emp) ⊢ (iprop(emp) : sProp 𝕄) := by iintro -; iempintro
    exact BI.Entails.antisymm h1 h2
  | i :: l => by
    rw [bigSepL_cons', bigSepL_cons', bigSepL_cons', bigSepL_both Φ Ψ l]
    exact BI.Entails.antisymm (sep_swap _ _ _ _) (sep_swap _ _ _ _)

section Stretches

variable (c : Dev nD) (b : Fin 2)

/-! ## Loads and stores -/

theorem readX_rule {Q : PUnit → sProp 𝕄} (X : S2048x1024.Idx → Elt F .f32) (k : Vec F S1024x1024 .f32 → Code F) :
    (owns (c : Thread nD τ) xM fullShare X : sProp 𝕄)
      ⊢ iprop((owns (c : Thread nD τ) xM fullShare X -∗ runs c (k fun j => X ((halfR b).emb j)) Q) -∗ runs c (readX b k) Q) :=
  load_within c xM fullShare (halfR b) X
theorem readO_rule {Q : PUnit → sProp 𝕄} (X : S1024x1024.Idx → Elt F .bf16) (k : Vec F S1024x1024 .bf16 → Code F) :
    (owns (c : Thread nD τ) (oH b) fullShare X : sProp 𝕄)
      ⊢ iprop((owns (c : Thread nD τ) (oH b) fullShare X -∗ runs c (k X) Q) -∗ runs c (readO b k) Q) :=
  load_part c oM fullShare (halfR b) (fun _ => rfl) X
theorem writeO_rule {Q : PUnit → sProp 𝕄} (X w : S1024x1024.Idx → Elt F .bf16) (k : Code F) :
    (owns (c : Thread nD τ) (oH b) fullShare X : sProp 𝕄)
      ⊢ iprop((owns (c : Thread nD τ) (oH b) fullShare w -∗ runs c k Q) -∗ runs c (writeO b w k) Q) := by
  unfold writeO
  exact store_part c oM (halfR b) (fun _ => rfl) X w (k := fun _ => k)

theorem zero_two : (![0, 0] : Fin 2 → ℕ) = fun _ => 0 := funext fun a => by fin_cases a <;> rfl
theorem zero_three : (![0, 0, 0] : Fin 3 → ℕ) = fun _ => 0 := funext fun a => by fin_cases a <;> rfl

theorem writeMy_rule {Q : PUnit → sProp 𝕄} (X w : S8x128.Idx → Elt F .f32) (k : Code F) :
    (owns (c : Thread nD τ) (myM b) fullShare X : sProp 𝕄)
      ⊢ iprop((owns (c : Thread nD τ) (myM b) fullShare w -∗ runs c k Q) -∗ runs c (writeMy b w k) Q) := by
  unfold writeMy
  have e : ∀ Y, (owns (c : Thread nD τ) ((myM b).slice (Rect.unit (s := S8x128) ![0, 0] S8x128.size inb_S8x128_S8x128_0_0) (fun _ => rfl)) fullShare Y : sProp 𝕄)
      = owns (c : Thread nD τ) (myM b) fullShare Y := fun Y => owns_slice_all c (myM b) fullShare zero_two _ _ Y
  iintro H Hk
  iapply (load_within c (myM b) fullShare _ X) $$ H
  iintro H
  ihave H := (Entails.of_eq (e X).symm) $$ H
  iapply (store_part c (myM b) (Rect.unit (s := S8x128) ![0, 0] S8x128.size inb_S8x128_S8x128_0_0) (fun _ => rfl) X w) $$ H
  iintro H
  ihave H := (Entails.of_eq (e w)) $$ H
  iapply Hk
  iexact H

theorem writeRow_rule {Q : PUnit → sProp 𝕄} (w : S1x8x128.Idx → Elt F .f32) (v : S8x128.Idx → Elt F .f32)
    (hv : (fun i => w (Shape.reshapeEquiv squeezes_S1x8x128_S8x128.numel_eq i)) = v) (k : Code F) :
    iprop(∃ Y, owns (c : Thread nD τ) (rowM b c) fullShare Y : sProp 𝕄)
      ⊢ iprop((owns (c : Thread nD τ) (rowM b c) fullShare v -∗ runs c k Q) -∗ runs c (writeRow b c w k) Q) := by
  subst hv
  have go : ∀ (o : Fin 3 → ℕ) (e : o = ![c.val, 0, 0]) (h : ∀ a, o a + S1x8x128.size a ≤ S16x8x128.size a) (Y : S8x128.Idx → Elt F .f32),
      (owns (c : Thread nD τ) (rowM b c) fullShare Y : sProp 𝕄)
        ⊢ iprop((owns (c : Thread nD τ) (rowM b c) fullShare (fun i => w (Shape.reshapeEquiv squeezes_S1x8x128_S8x128.numel_eq i)) -∗ runs c k Q)
          -∗ runs c (.op (.load (stM b) (Rect.unit (s := S16x8x128) o S1x8x128.size h).toLoadRect (View.loadsAt_vmem h_S1x8x128)) fun _ =>
            .op (.store (stM b) (Rect.unit (s := S16x8x128) o S1x8x128.size h) w Finset.univ (View.stores_vmem_bits_univ h_S1x8x128 rfl) (.inl rfl)) fun _ => k) Q) := by
    intro o e h Y
    subst e
    have hY : (owns (c : Thread nD τ) (rowM b c) fullShare Y : sProp 𝕄)
        = owns (c : Thread nD τ) (rowU b ![c.val, 0, 0] (inb_row c)) fullShare (fun j => Y (Shape.reshapeEquiv squeezes_S1x8x128_S8x128.numel_eq.symm j)) := by
      rw [owns_row]; simp only [Shape.reshapeEquiv_reshapeEquiv, Shape.reshapeEquiv_self]
    iintro H Hk
    ihave H := (Entails.of_eq hY) $$ H
    iapply (load_part c (stM b) fullShare (rowR ![c.val, 0, 0] (inb_row c)) (fun _ => rfl) _) $$ H
    iintro H
    iapply (store_part c (stM b) (rowR ![c.val, 0, 0] (inb_row c)) (fun _ => rfl) _ w) $$ H
    iintro H
    ihave H := (Entails.of_eq (owns_row c b fullShare _ (inb_row c) w)) $$ H
    iapply Hk
    iexact H
  iintro ⟨%Y, H⟩ Hk
  unfold writeRow
  iapply (go (k0_off1 c) (off1_eq c) (k0_off1_inb c) Y) $$ H
  iexact Hk

theorem readAll_rule {Q : PUnit → sProp 𝕄} (X : S16x8x128.Idx → Elt F .f32) (k : Vec F S16x8x128 .f32 → Code F) :
    (owns (c : Thread nD τ) (stM b) fullShare X : sProp 𝕄)
      ⊢ iprop((owns (c : Thread nD τ) (stM b) fullShare X -∗ runs c (k X) Q) -∗ runs c (readAll b k) Q) := by
  unfold readAll
  have e : (fun j => X ((Rect.unit (s := S16x8x128) ![0, 0, 0] S16x8x128.size inb_S16x8x128_S16x8x128_0_0_0).emb j)) = X :=
    funext fun j => congrArg X (emb_unit_zero zero_three _ j)
  iintro H Hk
  iapply (load_within c (stM b) fullShare (Rect.unit (s := S16x8x128) ![0, 0, 0] S16x8x128.size inb_S16x8x128_S16x8x128_0_0_0) X) $$ H
  rw [e]
  iexact Hk

/-! ## A block's phases -/

/-- A block's rows read, their exponentials kept and summed, whatever the printed payloads that do so. -/
theorem compute_rule {Q : PUnit → sProp 𝕄} (pe : Vec F S1024x1024 .f32 → FVec F S1024x1024 .bf16) (pm : Vec F S1024x1024 .f32 → FVec F S8x128 .f32)
    (pr : Vec F S1024x1024 .f32 → FVec F S1x8x128 .f32)
    (hr : ∀ x, (fun i => pr x (Shape.reshapeEquiv squeezes_S1x8x128_S8x128.numel_eq i)) = pm x) (X : S2048x1024.Idx → Elt F .f32) (k : Code F) :
    iprop(owns (c : Thread nD τ) xM fullShare X ∗ (∃ Y, owns (c : Thread nD τ) (oH b) fullShare Y) ∗ (∃ Y, owns (c : Thread nD τ) (myM b) fullShare Y)
        ∗ ∃ Y, owns (c : Thread nD τ) (rowM b c) fullShare Y)
      ⊢ iprop(((owns (c : Thread nD τ) xM fullShare X ∗ owns (c : Thread nD τ) (oH b) fullShare (pe fun j => X ((halfR b).emb j))
          ∗ owns (c : Thread nD τ) (myM b) fullShare (pm fun j => X ((halfR b).emb j)) ∗ owns (c : Thread nD τ) (rowM b c) fullShare (pm fun j => X ((halfR b).emb j)))
          -∗ runs c k Q)
        -∗ runs c (readX b fun x => readO b fun _ => writeO b (pe x) <| writeMy b (pm x) <| writeRow b c (pr x) k) Q) := by
  iintro ⟨Hx, ⟨%Yo, Ho⟩, ⟨%Ym, Hm⟩, Hr⟩ Hk
  iapply (readX_rule c b X _) $$ Hx; iintro Hx
  iapply (readO_rule c b Yo _) $$ Ho; iintro Ho
  iapply (writeO_rule c b Yo _ _) $$ Ho; iintro Ho
  iapply (writeMy_rule c b Ym _ _) $$ Hm; iintro Hm
  iapply (writeRow_rule c b _ _ (hr _) _) $$ Hr; iintro Hr
  iapply Hk
  isplitl [Hx]; · iexact Hx
  isplitl [Ho]; · iexact Ho
  isplitl [Hm] <;> iassumption

/-- What a device starts a block with: the tokens of the sends and of the way out, its places, the credits of its receives. -/
def blockStart : sProp 𝕄 :=
  iprop((bigSepL distL fun r => iprop(dutyTok ER (rcvCell (peer c r) b c) 0 c ∗ dutyTok ER (sndCell c b (peer 0 r)) 0 c))
    ∗ (dutyTok ER (outCell c b) 0 c ∗ atPos ER (outCell c b) 0 ∅ 0)
    ∗ (bigSep Finset.univ fun o : Dev nD => atPos ER (sndCell c b o) 0 ∅ 0)
    ∗ (bigSep Finset.univ fun p : Dev nD => atPos ER (rcvCell c b p) 0 ∅ 0)
    ∗ bigSepL distL fun r => cred (tallyAt (rcvCell c b (peer c r)) () N))

/-- A block whose sums are under way. -/
def blockSent : sProp 𝕄 :=
  iprop((dutyTok ER (outCell c b) 0 c ∗ atPos ER (outCell c b) 0 ∅ 0)
    ∗ (bigSep Finset.univ fun o : Dev nD => atPos ER (sndCell c b o) 0 ∅ 0)
    ∗ (bigSep Finset.univ fun p : Dev nD => atPos ER (rcvCell c b p) 0 ∅ 0)
    ∗ (bigSepL distL fun r => cred (tallyAt (rcvCell c b (peer c r)) () N))
    ∗ (bigSepL distL fun r => cred (tallyAt (sndCell c b (peer 0 r)) () N))
    ∗ sndPay m c b 0 ∗ owns (c : Thread nD τ) (rowM b c) fullShare (stat m c b) ∗ owns (c : Thread nD τ) (oH b) fullShare (expo m c b))

/-- A block on its way out. -/
def blockOut : sProp 𝕄 :=
  iprop((cred (tallyAt (outCell c b) () NO) ∗ atPos ER (outCell c b) 0 ∅ 0)
    ∗ (bigSep Finset.univ fun o : Dev nD => atPos ER (sndCell c b o) 0 ∅ 0)
    ∗ (bigSepL distL fun r => cred (tallyAt (sndCell c b (peer 0 r)) () N))
    ∗ sndPay m c b 0
    ∗ (bigSep Finset.univ fun p : Dev nD => semVal (rcvCell c b p) 0) ∗ owns (c : Thread nD τ) (stM b) fullShare (stats m b))

/-- A block that is through. -/
def blockEnd : sProp 𝕄 :=
  iprop(semVal (outCell c b) 0 ∗ (bigSep Finset.univ fun o : Dev nD => semVal (sndCell c b o) 0) ∗ (bigSep Finset.univ fun p : Dev nD => semVal (rcvCell c b p) 0)
    ∗ owns (c : Thread nD τ) (myM b) fullShare (stat m c b) ∗ owns (c : Thread nD τ) (stM b) fullShare (stats m b)
    ∗ owns (c : Thread nD τ) (oH b) fullShare (outW m c b) ∗ owns (c : Thread nD τ) (rH b) fullShare (outW m c b))

variable (K : Dev nD × KI → ℕ)

theorem send_phase {Q : PUnit → sProp 𝕄} (O : CellTallies nD τ sig Unit) (k : Code F) (l : List (Fin 15 × Dev nD)) (hl : l = distL.map fun r => (r, peer c r)) :
    iprop(records m K ∗ owing c (O + dues (toPost b c) distL) ∗ blockStart c b
        ∗ (bigSepL distL fun r => iprop(∃ X, owns (peer c r : Thread nD τ) (rowM b c) fullShare X))
        ∗ owns (c : Thread nD τ) (oH b) fullShare (expo m c b) ∗ owns (c : Thread nD τ) (myM b) fullShare (stat m c b)
        ∗ owns (c : Thread nD τ) (rowM b c) fullShare (stat m c b))
      ⊢ iprop(((owing c O ∗ blockSent m c b) -∗ runs c k Q) -∗ runs c (walk (post b c) l k) Q) := by
  subst hl
  rw [walk_map]
  unfold blockStart blockSent
  iintro ⟨#HR, HO, ⟨Htok, Hout, Hps, Hpr, Hcr⟩, Hrows, Ho, Hm, Hr⟩ Hk
  ihave Hm := (Entails.of_eq ((my_parts c b (stat m c b)).trans (bigSep_dev 0 _))) $$ Hm
  icases Hm with ⟨Hm0, Hms⟩
  iapply (post_walk m K c Q b O k) $$ [HO Htok Hrows Hms]
  · isplitr; · iexact HR
    isplitl [HO]; · iexact HO
    iapply (show iprop((bigSepL distL fun r => iprop(dutyTok ER (rcvCell (peer c r) b c) 0 c ∗ dutyTok ER (sndCell c b (peer 0 r)) 0 c))
        ∗ (bigSepL distL fun r => iprop(∃ X, owns (peer c r : Thread nD τ) (rowM b c) fullShare X))
        ∗ bigSepL distL fun r => owns (c : Thread nD τ) (myM b) (part (peer 0 r)) (stat m c b)) ⊢ bigSepL distL (postPre m c b) from by
      rw [← bigSepL_both, ← bigSepL_both]
      exact bigSepL_mono fun r _ => by
        unfold postPre
        iintro ⟨⟨H1, H2⟩, H3, H4⟩
        isplitl [H1]; · iexact H1
        isplitl [H2]; · iexact H2
        isplitl [H3] <;> iassumption)
    isplitl [Htok]; · iexact Htok
    isplitl [Hrows] <;> iassumption
  iintro ⟨HO, Hcs⟩
  iapply Hk
  isplitl [HO]; · iexact HO
  isplitl [Hout]; · iexact Hout
  isplitl [Hps]; · iexact Hps
  isplitl [Hpr]; · iexact Hpr
  isplitl [Hcr]; · iexact Hcr
  isplitl [Hcs]; · iexact Hcs
  isplitl [Hm0]; · unfold sndPay; iexact Hm0
  isplitl [Hr] <;> iassumption

/-- A cell no one pays closes as it stands. -/
theorem close_rule {Q : PUnit → sProp 𝕄} (x : KI) (hx : (Rd m).duties (kcell (c, x)) 0 = ∅) (k : Code F) :
    iprop(records m K ∗ atPos ER (kcell (c, x)) 0 ∅ 0) ⊢ iprop((semVal (kcell (c, x)) 0 -∗ runs c k Q) -∗ runs c k Q) := by
  iintro ⟨#HR, Hat⟩ Hk
  imod (Rounds.cell_close ER (Rd m) (Set.mem_univ (K (c, x))) (fun h => h) (R := 0)
    (fun r _ => by rcases Nat.eq_zero_or_pos r with rfl | h; exacts [hx, duties_later m _ r h])) $$ [Hat] with Hz
  · isplitr; · iapply (inv_at m K (c, x)); iexact HR
    iexact Hat
  iapply Hk
  iexact Hz

theorem finish_phase {Q : PUnit → sProp 𝕄} (pf : Vec F S16x8x128 .f32 → Vec F S1024x1024 .bf16 → FVec F S1024x1024 .bf16)
    (hf : pf (stats m b) (expo m c b) = outW m c b) (k : Code F) :
    iprop(records m K ∗ owing c 0 ∗ blockSent m c b ∗ (∃ X, owns (c : Thread nD τ) (rH b) fullShare X))
      ⊢ iprop(((owing c 0 ∗ blockOut m c b) -∗ runs c k Q)
        -∗ runs c (walk (take b c) distL <| readAll b fun s => readO b fun e => readO b fun _ => writeO b (pf s e) <| emitOut b k) Q) := by
  unfold blockSent blockOut
  iintro ⟨#HR, HO, ⟨⟨Htok, Hpo⟩, Hps, Hpr, Hcr, Hcs, Hm0, Hr, Ho⟩, Hd⟩ Hk
  ihave Hpr := (Entails.of_eq (bigSep_dev c _)) $$ Hpr
  icases Hpr with ⟨Hp0, Hpr⟩
  iapply (take_walk m K c Q b _) $$ [HO Hcr Hpr]
  · isplitr; · iexact HR
    isplitl [HO]; · iexact HO
    rw [bigSepL_both]
    isplitl [Hcr] <;> iassumption
  iintro ⟨HO, Hl⟩
  ihave Hl := (Entails.of_eq (bigSepL_both _ _ distL)) $$ Hl
  icases Hl with ⟨Hz, Hrows⟩
  iapply (close_rule m c K (kRcv b c) (duties_rcv0 m c b) _) $$ [Hp0]
  · isplitr; · iexact HR
    iexact Hp0
  iintro Hz0
  ihave Hst := (show iprop(owns (c : Thread nD τ) (rowM b c) fullShare (stat m c b) ∗ bigSepL distL fun r => rcvPay m c b (peer c r))
      ⊢ owns (c : Thread nD τ) (stM b) fullShare (stats m b) from
    (Entails.of_eq (by unfold rcvPay; exact (bigSep_dev c fun p => owns (c : Thread nD τ) (rowM b p) fullShare (stat m p b)).symm)).trans (st_join m c b)) $$ [Hr Hrows]
  · isplitl [Hr] <;> iassumption
  iapply (readAll_rule c b _ _) $$ Hst; iintro Hst
  iapply (readO_rule c b _ _) $$ Ho; iintro Ho
  iapply (readO_rule c b _ _) $$ Ho; iintro Ho
  iapply (writeO_rule c b _ _ _) $$ Ho
  rw [hf]
  iintro Ho
  iapply (emit_rule m K c Q b k) $$ [Htok Ho Hd]
  · isplitr; · iexact HR
    isplitl [Htok]; · iexact Htok
    isplitl [Ho] <;> iassumption
  iintro Hc
  iapply Hk
  isplitl [HO]; · iexact HO
  isplitl [Hc Hpo]
  · isplitl [Hc] <;> iassumption
  isplitl [Hps]; · iexact Hps
  isplitl [Hcs]; · iexact Hcs
  isplitl [Hm0]; · iexact Hm0
  isplitl [Hz0 Hz]
  · rw [bigSep_dev c]
    isplitl [Hz0] <;> iassumption
  iexact Hst

/-- What is left of a block once its copy out is waited for. -/
def blockLast : sProp 𝕄 :=
  iprop(semVal (outCell c b) 0
    ∗ (bigSep Finset.univ fun o : Dev nD => atPos ER (sndCell c b o) 0 ∅ 0)
    ∗ (bigSepL distL fun r => cred (tallyAt (sndCell c b (peer 0 r)) () N))
    ∗ sndPay m c b 0
    ∗ (bigSep Finset.univ fun p : Dev nD => semVal (rcvCell c b p) 0) ∗ owns (c : Thread nD τ) (stM b) fullShare (stats m b) ∗ outPay m c b)

theorem out_phase {Q : PUnit → sProp 𝕄} (k : Code F) :
    iprop(records m K ∗ owing c 0 ∗ blockOut m c b) ⊢ iprop(((owing c 0 ∗ blockLast m c b) -∗ runs c k Q) -∗ runs c (waitOut b k) Q) := by
  unfold blockOut blockLast
  iintro ⟨#HR, HO, ⟨Hc, Hpo⟩, Hps, Hcs, Hm0, Hz, Hst⟩ Hk
  iapply (waitOut_rule m K c Q b k) $$ [HO Hc Hpo]
  · isplitr; · iexact HR
    isplitl [HO]; · iexact HO
    isplitl [Hc] <;> iassumption
  iintro ⟨HO, Hzo, Hp⟩
  iapply Hk
  isplitl [HO]; · iexact HO
  isplitl [Hzo]; · iexact Hzo
  isplitl [Hps]; · iexact Hps
  isplitl [Hcs]; · iexact Hcs
  isplitl [Hm0]; · iexact Hm0
  isplitl [Hz]; · iexact Hz
  isplitl [Hst] <;> iassumption

theorem settle_phase {Q : PUnit → sProp 𝕄} (k : Code F) :
    iprop(records m K ∗ owing c 0 ∗ blockLast m c b) ⊢ iprop(((owing c 0 ∗ blockEnd m c b) -∗ runs c k Q) -∗ runs c (walk (gone b c) distL k) Q) := by
  unfold blockLast blockEnd outPay
  iintro ⟨#HR, HO, Hzo, Hps, Hcs, Hm0, Hz, Hst, Hrh, Hoh⟩ Hk
  ihave Hps := (Entails.of_eq (bigSep_dev 0 _)) $$ Hps
  icases Hps with ⟨Hp0, Hps⟩
  iapply (close_rule m c K (kSnd b 0) (duties_snd0 m c b) _) $$ [Hp0]
  · isplitr; · iexact HR
    iexact Hp0
  iintro Hz0
  iapply (gone_walk m K c Q b k) $$ [HO Hcs Hps]
  · isplitr; · iexact HR
    isplitl [HO]; · iexact HO
    rw [bigSepL_both]
    isplitl [Hcs] <;> iassumption
  iintro ⟨HO, Hl⟩
  ihave Hl := (Entails.of_eq (bigSepL_both _ _ distL)) $$ Hl
  icases Hl with ⟨Hzs, Hms⟩
  iapply Hk
  isplitl [HO]; · iexact HO
  isplitl [Hzo]; · iexact Hzo
  isplitl [Hz0 Hzs]
  · rw [bigSep_dev 0]
    isplitl [Hz0] <;> iassumption
  isplitl [Hz]; · iexact Hz
  isplitl [Hm0 Hms]
  · rw [my_parts, bigSep_dev 0]
    unfold sndPay
    isplitl [Hm0] <;> iassumption
  isplitl [Hst]; · iexact Hst
  isplitl [Hoh] <;> iassumption

end Stretches

end Cert.SoftmaxKernelIdeal
-- ==== Proof.KernelIdealBody.lean ====
/-
The body, from its first effect to its last, on a symbolic device; and the pipeline's obligation it meets.
-/
module

public import proofs.«01_k».proof.Proof.KernelIdealStretches

@[expose] public section

noncomputable section

namespace Cert.SoftmaxKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-- What a device is dealt: its places, the tokens of what it pays, the credits of what it waits for. -/
def dealt (c : Dev nD) : sProp 𝕄 :=
  iprop(cred (tallyAt (barCell c) () 15) ∗ atPos ER (barCell c) 0 ∅ 0 ∗ (bigSepL distL fun r => dutyTok ER (barCell (peer c r)) 0 c)
    ∗ blockStart c 0 ∗ blockStart c 1)

/-- That, the cells' records under some names, the levels, and the result's array. -/
def start (c : Dev nD) : sProp 𝕄 :=
  iprop((∃ K, records m K) ∗ levAts L lv ∗ dealt c ∗ ∃ X, owns (c : Thread nD τ) rM fullShare X)

/-- The buffers the body works in. -/
def scratch (c : Dev nD) : sProp 𝕄 :=
  iprop((∃ X, owns (c : Thread nD τ) oM fullShare X) ∗ (∃ X, owns (c : Thread nD τ) (myM 0) fullShare X) ∗ (∃ X, owns (c : Thread nD τ) (myM 1) fullShare X)
    ∗ (∃ X, owns (c : Thread nD τ) (stM 0) fullShare X) ∗ ∃ X, owns (c : Thread nD τ) (stM 1) fullShare X)

def Φ₀ (c : Dev nD) : sProp 𝕄 := iprop(start m c ∗ scratch c)
def Φ₁ (c : Dev nD) : sProp 𝕄 := iprop(semVal (barCell c) 0 ∗ blockEnd m c 0 ∗ blockEnd m c 1)

/-- The pipeline's data: one window, the input's, which the body only reads. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAll m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The rows of a device's tables: its own, and those the others write, with the tokens of telling them so. -/
theorem tables_split (c : Dev nD) :
    iprop((∃ X, owns (c : Thread nD τ) (stM 0) fullShare X) ∗ (∃ X, owns (c : Thread nD τ) (stM 1) fullShare X)
        ∗ bigSepL distL fun r => dutyTok ER (barCell (peer c r)) 0 c)
      ⊢ iprop((∃ Y, owns (c : Thread nD τ) (rowM 0 c) fullShare Y) ∗ (∃ Y, owns (c : Thread nD τ) (rowM 1 c) fullShare Y)
        ∗ bigSepL distL fun r => iprop(dutyTok ER (barCell (peer c r)) 0 c ∗ (barPay (peer c r) c : sProp 𝕄))) := by
  unfold barPay
  rw [bigSepL_both, bigSepL_both]
  iintro ⟨⟨%X0, H0⟩, ⟨%X1, H1⟩, Ht⟩
  ihave H0 := ((st_split c 0 X0).trans (Entails.of_eq (bigSep_dev c _))) $$ H0
  ihave H1 := ((st_split c 1 X1).trans (Entails.of_eq (bigSep_dev c _))) $$ H1
  icases H0 with ⟨H0, H0s⟩
  icases H1 with ⟨H1, H1s⟩
  isplitl [H0]; · iexact H0
  isplitl [H1]; · iexact H1
  isplitl [Ht]; · iexact Ht
  isplitl [H0s] <;> iassumption

set_option maxHeartbeats 1000000 in
/-- The body, phase by phase. -/
theorem sound_body (c : Dev nD) (Q : PUnit → sProp 𝕄) :
    iprop(Φ₀ m c ∗ owing c (O₀ c) ∗ owns (c : Thread nD τ) xM fullShare (xAll m c))
      ⊢ iprop(((Φ₁ m c ∗ owing c 0 ∗ owns (c : Thread nD τ) xM fullShare (xAll m c)) -∗ Q ⟨⟩) -∗ runs c (bodyS c) Q) := by
  unfold Φ₀ start dealt scratch bodyS
  iintro ⟨⟨⟨⟨%K, #HR⟩, #Hlev, ⟨Hcb, Hpb, Htb, Hb0, Hb1⟩, %Xr, Hres⟩, ⟨%Xo, Ho⟩, ⟨%Xm0, Hm0⟩, ⟨%Xm1, Hm1⟩, Hst0, Hst1⟩, HO, Hx⟩ Hk
  ihave Hres := (half_split c rM Xr) $$ Hres
  icases Hres with ⟨Hr0, Hr1⟩
  ihave Ho := (half_split c oM Xo) $$ Ho
  icases Ho with ⟨Ho0, Ho1⟩
  ihave Hrows := (tables_split c) $$ [Hst0 Hst1 Htb]
  · isplitl [Hst0]; · iexact Hst0
    isplitl [Hst1] <;> iassumption
  icases Hrows with ⟨Hrow0, Hrow1, Htb⟩
  iapply (tell_walk m K c Q _) $$ [HO Htb]
  · isplitr; · iexact HR
    isplitl [HO] <;> iassumption
  iintro HO
  iapply (compute_rule c 0 k0_pay3 k0_pay4 k0_pay5 stat_row0 (xAll m c) _) $$ [Hx Ho0 Hm0 Hrow0]
  · isplitl [Hx]; · iexact Hx
    isplitl [Ho0]; · iexact Ho0
    isplitl [Hm0]; · iexists Xm0; iexact Hm0
    iexact Hrow0
  iintro ⟨Hx, Ho0, Hm0, Hrow0⟩
  iapply (meet_rule m K c Q _) $$ [HO Hcb Hpb]
  · isplitr; · iexact HR
    isplitr; · iexact Hlev
    isplitl [HO]; · iexact HO
    isplitl [Hcb] <;> iassumption
  unfold barPay
  rw [bigSepL_both]
  iintro ⟨HO, Hzb, Hin0, Hin1⟩
  iapply (send_phase m c 0 K (O₂ c) _ _ (postL0_eq c)) $$ [HO Hb0 Hin0 Ho0 Hm0 Hrow0]
  · isplitr; · iexact HR
    isplitl [HO]; · iexact HO
    isplitl [Hb0]; · iexact Hb0
    isplitl [Hin0]; · iexact Hin0
    isplitl [Ho0]; · iexact Ho0
    isplitl [Hm0]; · iexact Hm0
    iexact Hrow0
  iintro ⟨HO, Hb0⟩
  unfold bodyA
  iapply (compute_rule c 1 k0_pay8 (fun x => k0_pay9 (k0_pay7 x)) (fun x => k0_pay10 (k0_pay7 x)) (fun x => stat_row1 (k0_pay7 x)) (xAll m c) _) $$ [Hx Ho1 Hm1 Hrow1]
  · isplitl [Hx]; · iexact Hx
    isplitl [Ho1]; · iexact Ho1
    isplitl [Hm1]; · iexists Xm1; iexact Hm1
    iexact Hrow1
  iintro ⟨Hx, Ho1, Hm1, Hrow1⟩
  iapply (send_phase m c 1 K 0 _ _ (postL1_eq c)) $$ [HO Hb1 Hin1 Ho1 Hm1 Hrow1]
  · isplitr; · iexact HR
    isplitl [HO]; · iexact HO
    isplitl [Hb1]; · iexact Hb1
    isplitl [Hin1]; · iexact Hin1
    isplitl [Ho1]; · iexact Ho1
    isplitl [Hm1]; · iexact Hm1
    iexact Hrow1
  iintro ⟨HO, Hb1⟩
  unfold bodyB
  iapply (finish_phase m c 0 K k0_pay11 rfl _) $$ [HO Hb0 Hr0]
  · isplitr; · iexact HR
    isplitl [HO]; · iexact HO
    isplitl [Hb0]; · iexact Hb0
    iexact Hr0
  iintro ⟨HO, Hb0⟩
  unfold bodyC
  iapply (finish_phase m c 1 K k0_pay12 rfl _) $$ [HO Hb1 Hr1]
  · isplitr; · iexact HR
    isplitl [HO]; · iexact HO
    isplitl [Hb1]; · iexact Hb1
    iexact Hr1
  iintro ⟨HO, Hb1⟩
  unfold bodyD
  iapply (out_phase m c 0 K _) $$ [HO Hb0]
  · isplitr; · iexact HR
    isplitl [HO] <;> iassumption
  iintro ⟨HO, Hb0⟩
  iapply (out_phase m c 1 K _) $$ [HO Hb1]
  · isplitr; · iexact HR
    isplitl [HO] <;> iassumption
  iintro ⟨HO, Hb1⟩
  iapply (settle_phase m c 0 K _) $$ [HO Hb0]
  · isplitr; · iexact HR
    isplitl [HO] <;> iassumption
  iintro ⟨HO, Hb0⟩
  iapply (settle_phase m c 1 K _) $$ [HO Hb1]
  · isplitr; · iexact HR
    isplitl [HO] <;> iassumption
  iintro ⟨HO, Hb1⟩
  unfold runs
  rw [wp_ret]
  imodintro
  iapply Hk
  unfold Φ₁
  isplitl [Hzb Hb0 Hb1]
  · isplitl [Hzb]; · iexact Hzb
    isplitl [Hb0] <;> iassumption
  isplitl [HO] <;> iassumption

set_option maxRecDepth 65536 in
/-- The printed body reads its device's name and goes on by it. -/
theorem runs_body (c : Dev nD) (Q : PUnit → sProp 𝕄) : runs c (bodyAt0 (F := F) t0_0) Q = runs c (bodyS c) Q :=
  (congrArg (fun p => runs c p Q) body_eq).trans (wp_deviceId 𝒱₀ (c : Thread nD τ) none Set.univ)

/-- What the pipeline hands the point, and what it takes back. -/
def pointPre (c : Dev nD) : sProp 𝕄 :=
  iprop(Φ₀ m c ∗ (dats m ρ 0 c).owesAt () t0_0.castSucc ∗ ∃ d, owns (c : Thread nD τ) xM fullShare ((dats m ρ 0 c).before (0 : Fin 1) t0_0 d))
def pointPost (c : Dev nD) : sProp 𝕄 :=
  iprop(Φ₁ m c ∗ (dats m ρ 0 c).owesAt () t0_0.succ ∗ owns (c : Thread nD τ) xM fullShare (xAll m c))

theorem point (c : Dev nD) : pointPre m ρ c ⊢ runs c (bodyAt0 (F := F) t0_0) fun _ => pointPost m ρ c := by
  rw [runs_body]
  unfold pointPre pointPost
  iintro ⟨H0, Ho, %d, Hx⟩
  rw [show (dats m ρ 0 c).before (0 : Fin 1) t0_0 d = xAll m c by unfold Dat.before; rw [if_pos (fetch0_0 t0_0)]; rfl]
  unfold Dat.owesAt Pipeline.owesWithin
  icases Ho with ⟨%W, %hW, HO⟩
  rw [show (dats m ρ 0 c).owed t0_0.castSucc = O₀ c from rfl, show (dats m ρ 0 c).owed t0_0.succ = 0 from rfl]
  iapply (sound_body m c fun _ => _) $$ [H0 HO Hx]
  · isplitl [H0]; · iexact H0
    isplitl [HO]; · unfold owing; iexists W; iexact HO
    iexact Hx
  unfold owing
  iintro ⟨H1, ⟨%W', HO⟩, Hx⟩
  isplitl [H1]; · iexact H1
  isplitl [HO]
  · iexists W'
    isplitr; · (ipureintro; exact fun _ _ => Or.inl trivial)
    iexact HO
  iexact Hx

set_option maxRecDepth 65536 in
/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  exact point m ρ c

end Cert.SoftmaxKernelIdeal
-- ==== Proof.KernelIdealLaunch.lean ====
/-
The launch: the cells' records made once for all devices, each device dealt its tokens and credits, and the run of the whole mesh.
-/
module

public import proofs.«01_k».proof.Proof.KernelIdealBody
public import Idealize.ShloMosaic.Lib.Pipeline.CollectiveSegs

@[expose] public section

noncomputable section

namespace Cert.SoftmaxKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem csem_injective : Function.Injective csem := fun k k' h => by
  have e := congrArg kind h
  rw [kind_csem, kind_csem] at e
  exact Option.some.inj e

theorem scoped_own (k : OI) : (osem k).isScoped .tc = true := by
  rcases k with b | x | x
  · exact (by decide : ∀ b : Fin 2, (osem (.inl b)).isScoped .tc = true) b
  · exact (by decide : ∀ x : Fin 2 × Dev nD, (osem (.inr (.inl x))).isScoped .tc = true) x
  · exact (by decide : ∀ x : Fin 2 × Dev nD, (osem (.inr (.inr x))).isScoped .tc = true) x

theorem kind_stage (w : Fin 1) (s : Fin (cfg0.spec w).nbuf) : kind (.dma ((cfg0.spec w).sem s)) = none := by
  revert w s; decide

/-- The cells the body settles are the kernel's own, none the pipeline's. -/
theorem ownSemFacts : Pipeline.OwnSemFacts cfg0.spec osem where
  isScoped := scoped_own
  inj k k' h := Sum.inr_injective (csem_injective (a₁ := .inr k) (a₂ := .inr k') h)
  disj k w s h := by
    have e := congrArg kind h
    rw [show kind (osem k) = some (.inr k) from kind_csem (.inr k), show kind (.dma ((cfg0.spec w).sem s)) = none from kind_stage w s] at e
    cases e

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What a device pays: telling the others, its sums to the others, their leaving, its rows going out. -/
abbrev JT : Type := Fin 15 ⊕ ((Fin 2 × Fin 15) ⊕ ((Fin 2 × Fin 15) ⊕ Fin 2))
/-- The cell device `d` pays by it. -/
def paid (d : Dev nD) : JT → Dev nD × KI
  | .inl r => (peer d r, kBar)
  | .inr (.inl x) => (peer d x.2, kRcv x.1 d)
  | .inr (.inr (.inl x)) => (d, kSnd x.1 (peer 0 x.2))
  | .inr (.inr (.inr b)) => (d, kOut b)

theorem paid_injective (d : Dev nD) : Function.Injective (paid d) := by
  rintro (r | ⟨b, r⟩ | ⟨b, r⟩ | b) (r' | ⟨b', r'⟩ | ⟨b', r'⟩ | b') h <;> simp only [paid, Prod.mk.injEq, Sum.inl.injEq, Sum.inr.injEq, reduceCtorEq, and_false, and_true, true_and] at h
  · rw [peer_inj d r r' h]
  · rw [peer_inj d r r' h.1, h.2]
  · rw [peer_inj 0 r r' h.2, h.1]
  · rw [h]

abbrev tokOf (dj : Dev nD × JT) : GSem nD τ sig × ℕ × Dev nD := (kcell (paid dj.1 dj.2), 0, dj.1)
theorem tokOf_injective : Function.Injective tokOf := by
  rintro ⟨d, j⟩ ⟨d', j'⟩ h
  have h1 : d = d' := congrArg (fun x : GSem nD τ sig × ℕ × Dev nD => x.2.2) h
  subst h1
  exact congrArg (Prod.mk d) (paid_injective d (kcell_injective (congrArg (fun x : GSem nD τ sig × ℕ × Dev nD => x.1) h)))

def allCells : Finset (GSem nD τ sig) := Finset.univ.map ⟨kcell, kcell_injective⟩
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The places of device `c`, and the tokens it pays with. -/
def places (c : Dev nD) : sProp 𝕄 := bigSep Finset.univ fun k : KI => atPos ER (kcell (c, k)) 0 ∅ 0
def tokens (c : Dev nD) : sProp 𝕄 := bigSep Finset.univ fun j : JT => dutyTok ER (kcell (paid c j)) 0 c

def G (c : Dev nD) : sProp 𝕄 :=
  iprop((bigSep Finset.univ fun k : KI => roundState ER (Rd m) (kcell (c, k)) 0) ∗ (bigSep Finset.univ fun k : KI => reached ER (kcell (c, k)) 0) ∗ places c ∗ tokens c)
def G' (c : Dev nD) : sProp 𝕄 := iprop((∃ K, records m K) ∗ places c ∗ tokens c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => tokens c := by
    unfold allToks tokens; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hr]; · iexact Hr
  isplitl [Hat] <;> iassumption

/-! ## The records, for everyone -/

theorem bigSep_unit (Φ : Unit → sProp 𝕄) : bigSep Finset.univ Φ = Φ () := bigSep_univ_eq_bigSepL [()] (by decide) (by decide) Φ

theorem barSem_eq (c : Dev nD) : (unscopedSems0 c : sProp 𝕄) = semVal (barCell c) 0 := by
  unfold unscopedSems0; rw [bigSep_eq_bigSepL_of_eq [SemLoc.reg barS] (by decide) (by decide)]; rfl

theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [bigSep_univ_sum, bigSep_unit, barSem_eq]
  unfold Pipeline.ownSems0
  show _ ⊢ iprop(semVal (barCell c) 0 ∗ bigSep Finset.univ fun k : OI => semVal ((c : Thread nD τ), osem k) 0)
  iintro ⟨H1, H2⟩
  isplitl [H2] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (Rd m) κ (kcell (c, k))))
          ∗ (bigSep Finset.univ fun k : KI => reached ER (kcell (c, k)) 0) ∗ places c ∗ tokens c) := by
  unfold G
  iintro ⟨Hos, Hus, Hst, Hrest⟩
  ihave Hv := (sems_all (F := F) c) $$ [Hos Hus]
  · isplitl [Hos] <;> iassumption
  imod (show iprop((bigSep Finset.univ fun k : KI => semVal (kcell (c, k)) 0) ∗ bigSep Finset.univ fun k : KI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv] <;> iassumption

theorem bigSep_keep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KI => iprop(∃ κ : ℕ, cellInv ER (Rd m) κ (kcell (c, k))))
          ∗ (bigSep Finset.univ fun k : KI => reached ER (kcell (c, k)) 0) ∗ places c ∗ tokens c) : sProp 𝕄)
      ⊢ bigSep Finset.univ (G' m) := by
  rw [bigSep_sep', bigSep_sep', ← bigSep_univ_prod (fun ck : Dev nD × KI => iprop(∃ κ : ℕ, cellInv ER (Rd m) κ (kcell ck))),
    ← bigSep_univ_prod (fun ck : Dev nD × KI => (reached ER (kcell ck) 0 : sProp 𝕄))]
  iintro ⟨HI, #HR, Hrest⟩
  ihave HK := (BI.bigSep_exists_pi Finset.univ (fun (ck : Dev nD × KI) (κ : ℕ) => (cellInv ER (Rd m) κ (kcell ck) : sProp 𝕄))) $$ HI
  icases HK with ⟨%K, #HI⟩
  iapply (bigSep_keep (R := records m K) (Φ := fun c => iprop(places c ∗ tokens c)) fun c _ => show _ ⊢ G' m c from by
    unfold G'
    iintro ⟨HR, Hp⟩
    isplitl [HR]; · iexists K; iexact HR
    iexact Hp)
  isplitr
  · unfold records; isplitl; · iexact HI
    iexact HR
  iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem tallyAt_kcell (a x : Dev nD × KI) (n : ℕ) : (tallyAt (kcell a) () n : CellTallies nD τ sig Unit) (kcell x) () = if x = a then n else 0 := by
  rw [tallyAt_apply]
  by_cases h : x = a
  · rw [if_pos ⟨congrArg kcell h, rfl⟩, if_pos h]
  · rw [if_neg fun h' => h (kcell_injective h'.1), if_neg h]

/-- Of one kind of dues, those to a cell: as many as the distances that lead to it. -/
theorem dues_kcell (f : Fin 15 → Dev nD × KI) (n : ℕ) (x : Dev nD × KI) :
    ∀ l : List (Fin 15), dues (fun r => tallyAt (kcell (f r)) () n) l (kcell x) () = (l.map fun r => if x = f r then 1 else 0).sum * n
  | [] => by rw [dues_nil, List.map_nil, List.sum_nil, Nat.zero_mul]; rfl
  | r :: l => by
    rw [dues_cons, Pi.add_apply, Finsupp.add_apply, dues_kcell f n x l, tallyAt_kcell, List.map_cons, List.sum_cons, Nat.add_mul, Nat.add_comm]
    congr 1
    split <;> simp

theorem none_of (f : Fin 15 → Dev nD × KI) (x : Dev nD × KI) (h : ∀ r, x ≠ f r) : ∀ l : List (Fin 15), (l.map fun r => if x = f r then 1 else 0).sum = 0
  | [] => rfl
  | r :: l => by rw [List.map_cons, List.sum_cons, none_of f x h l, if_neg (h r)]

/-- The distances from `d` to `c`. -/
def hops (d c : Dev nD) : ℕ := (distL.map fun r => if c = peer d r then 1 else 0).sum

theorem hops_sum (c : Dev nD) : ∑ d : Dev nD, hops d c = 15 := by revert c; decide
theorem hops_one (c : Dev nD) (r : Fin 15) : hops (peer c r) c = 1 := by revert c r; decide

theorem owed_bar (d c : Dev nD) : O₀ d (barCell c) () = hops d c := by
  have e0 := dues_kcell (fun r => (peer d r, kRcv 0 d)) N (c, kBar) distL
  have e1 := dues_kcell (fun r => (peer d r, kRcv 1 d)) N (c, kBar) distL
  have e2 := dues_kcell (fun r => (peer d r, kBar)) 1 (c, kBar) distL
  rw [none_of _ _ (fun r h => by cases congrArg Prod.snd h), Nat.zero_mul] at e0 e1
  unfold O₀ O₁ O₂
  rw [Pi.add_apply, Finsupp.add_apply, Pi.add_apply, Finsupp.add_apply, zero_add]
  refine (congrArg₂ (· + ·) (congrArg₂ (· + ·) e1 e0) e2).trans ?_
  rw [show ∀ n : ℕ, 0 + 0 + n * 1 = n from fun n => by omega]
  unfold hops
  simp only [Prod.mk.injEq, and_true]

theorem owed_rcv (b : Fin 2) (d c p : Dev nD) : O₀ d (rcvCell c b p) () = if d = p then hops p c * N else 0 := by
  have e0 := dues_kcell (fun r => (peer d r, kRcv 0 d)) N (c, kRcv b p) distL
  have e1 := dues_kcell (fun r => (peer d r, kRcv 1 d)) N (c, kRcv b p) distL
  have e2 := dues_kcell (fun r => (peer d r, kBar)) 1 (c, kRcv b p) distL
  rw [none_of _ _ (fun r h => by cases congrArg Prod.snd h), Nat.zero_mul] at e2
  unfold O₀ O₁ O₂
  rw [Pi.add_apply, Finsupp.add_apply, Pi.add_apply, Finsupp.add_apply, zero_add]
  refine (congrArg₂ (· + ·) (congrArg₂ (· + ·) e1 e0) e2).trans ?_
  rw [Nat.add_zero]
  by_cases h : d = p
  · subst h
    rw [if_pos rfl]
    unfold hops
    fin_cases b
    · rw [none_of (fun r => (peer d r, kRcv 1 d)) _ (fun r h => by cases congrArg Prod.snd h)]
      simp
    · rw [none_of (fun r => (peer d r, kRcv 0 d)) _ (fun r h => by cases congrArg Prod.snd h)]
      simp
  · rw [if_neg h, none_of _ _ (fun r h' => h ?_), none_of _ _ (fun r h' => h ?_)]
    · rw [Nat.zero_mul]
    all_goals
      have e := congrArg Prod.snd h'
      simp only [Sum.inr.injEq, Prod.mk.injEq] at e
      exact e.2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, hops_sum]

theorem launch_rcv (c : Dev nD) (b : Fin 2) (r : Fin 15) :
    tallyOn (rcvCell c b (peer c r)) (launchCredit (Pipeline.owing O₀) 0 (rcvCell c b (peer c r))) = (tallyAt (rcvCell c b (peer c r)) () N : CellTallies nD τ sig Unit) := by
  unfold tallyAt; refine congrArg _ (Finsupp.ext fun u => ?_); cases u
  rw [Pipeline.launchCredit_owing, Finsupp.single_eq_same, Finset.sum_congr rfl fun d _ => owed_rcv b d c (peer c r), Finset.sum_ite_eq' Finset.univ (peer c r) fun _ => hops (peer c r) c * N,
    if_pos (Finset.mem_univ _), hops_one, Nat.one_mul]

/-- The cells whose credits the launch deals. -/
def credited (c : Dev nD) : Unit ⊕ (Fin 2 × Fin 15) → SemLoc sig
  | .inl _ => .reg barS
  | .inr x => .dma (rcvS x.1 (peer c x.2))
theorem credited_injective (c : Dev nD) : Function.Injective (credited c) := by
  rintro (u | ⟨b, r⟩) (u' | ⟨b', r'⟩) h
  · rfl
  · cases h
  · cases h
  · have e := csem_injective (a₁ := kRcv b (peer c r)) (a₂ := kRcv b' (peer c r')) h
    simp only [Sum.inr.injEq, Prod.mk.injEq] at e
    rw [e.1, peer_inj c r r' e.2]

theorem bigSep_dist (Φ : Fin 15 → sProp 𝕄) : bigSep Finset.univ Φ = bigSepL distL Φ := bigSep_univ_eq_bigSepL distL (by decide) (by decide) Φ

theorem creds (c : Dev nD) : (Pipeline.launchCred O₀ c : sProp 𝕄)
    ⊢ iprop(cred (tallyAt (barCell c) () 15) ∗ (bigSepL distL fun r => cred (tallyAt (rcvCell c 0 (peer c r)) () N))
      ∗ bigSepL distL fun r => cred (tallyAt (rcvCell c 1 (peer c r)) () N)) := by
  unfold Pipeline.launchCred
  refine (show _ ⊢ _ from bigSep_subset (Finset.subset_univ (Finset.univ.map ⟨credited c, credited_injective c⟩))).trans (Entails.of_eq ?_)
  rw [bigSep_map, bigSep_univ_sum, bigSep_unit, bigSep_univ_prod, bigSep_two, bigSep_dist, bigSep_dist]
  simp only [Function.Embedding.coeFn_mk, credited, launch_bar, launch_rcv]
  rfl

/-! ## What each device starts with, and what it hands back -/

theorem tokens_eq (c : Dev nD) : (tokens c : sProp 𝕄)
    = iprop((bigSepL distL fun r => dutyTok ER (barCell (peer c r)) 0 c)
      ∗ ((bigSepL distL fun r => dutyTok ER (rcvCell (peer c r) 0 c) 0 c) ∗ bigSepL distL fun r => dutyTok ER (rcvCell (peer c r) 1 c) 0 c)
      ∗ ((bigSepL distL fun r => dutyTok ER (sndCell c 0 (peer 0 r)) 0 c) ∗ bigSepL distL fun r => dutyTok ER (sndCell c 1 (peer 0 r)) 0 c)
      ∗ dutyTok ER (outCell c 0) 0 c ∗ dutyTok ER (outCell c 1) 0 c) := by
  unfold tokens
  rw [bigSep_univ_sum, bigSep_univ_sum, bigSep_univ_sum, bigSep_univ_prod, bigSep_univ_prod, bigSep_two, bigSep_two, bigSep_two]
  simp only [bigSep_dist]
  rfl

theorem places_eq (c : Dev nD) : (places c : sProp 𝕄)
    = iprop(atPos ER (barCell c) 0 ∅ 0 ∗ (atPos ER (outCell c 0) 0 ∅ 0 ∗ atPos ER (outCell c 1) 0 ∅ 0)
      ∗ ((bigSep Finset.univ fun o : Dev nD => atPos ER (sndCell c 0 o) 0 ∅ 0) ∗ bigSep Finset.univ fun o : Dev nD => atPos ER (sndCell c 1 o) 0 ∅ 0)
      ∗ (bigSep Finset.univ fun p : Dev nD => atPos ER (rcvCell c 0 p) 0 ∅ 0) ∗ bigSep Finset.univ fun p : Dev nD => atPos ER (rcvCell c 1 p) 0 ∅ 0) := by
  unfold places
  rw [bigSep_univ_sum, bigSep_univ_sum, bigSep_univ_sum, bigSep_unit, bigSep_univ_prod, bigSep_univ_prod, bigSep_two, bigSep_two, bigSep_two]
  rfl

theorem ownSems_eq (c : Dev nD) : (Pipeline.ownSems0 (Ix := Unit) (Name := ℕ) (U := UU) (Lvl := ℕ) (Val := Elt F) (τ := τ) osem c : sProp 𝕄)
    = iprop((semVal (outCell c 0) 0 ∗ semVal (outCell c 1) 0)
      ∗ ((bigSep Finset.univ fun o : Dev nD => semVal (sndCell c 0 o) 0) ∗ bigSep Finset.univ fun o : Dev nD => semVal (sndCell c 1 o) 0)
      ∗ (bigSep Finset.univ fun p : Dev nD => semVal (rcvCell c 0 p) 0) ∗ bigSep Finset.univ fun p : Dev nD => semVal (rcvCell c 1 p) 0) := by
  unfold Pipeline.ownSems0
  rw [bigSep_univ_sum, bigSep_univ_sum, bigSep_univ_prod, bigSep_univ_prod, bigSep_two, bigSep_two, bigSep_two]
  rfl

theorem dealt_intro (c : Dev nD) : iprop(Pipeline.launchCred O₀ c ∗ places c ∗ tokens c) ⊢ (dealt c : sProp 𝕄) := by
  rw [places_eq, tokens_eq]
  unfold dealt blockStart
  rw [bigSepL_both, bigSepL_both]
  iintro ⟨Hc, ⟨Hpb, ⟨Hpo0, Hpo1⟩, ⟨Hps0, Hps1⟩, Hpr0, Hpr1⟩, Htb, ⟨Htr0, Htr1⟩, ⟨Hts0, Hts1⟩, Hto0, Hto1⟩
  ihave Hc := (creds (F := F) c) $$ Hc
  icases Hc with ⟨Hcb, Hc0, Hc1⟩
  isplitl [Hcb]; · iexact Hcb
  isplitl [Hpb]; · iexact Hpb
  isplitl [Htb]; · iexact Htb
  isplitl [Htr0 Hts0 Hto0 Hpo0 Hps0 Hpr0 Hc0]
  · isplitl [Htr0 Hts0]
    · isplitl [Htr0] <;> iassumption
    isplitl [Hto0 Hpo0]
    · isplitl [Hto0] <;> iassumption
    isplitl [Hps0]; · iexact Hps0
    isplitl [Hpr0] <;> iassumption
  isplitl [Htr1 Hts1]
  · isplitl [Htr1] <;> iassumption
  isplitl [Hto1 Hpo1]
  · isplitl [Hto1] <;> iassumption
  isplitl [Hps1]; · iexact Hps1
  isplitl [Hpr1] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄)
    = iprop((((c : Thread nD τ).loc main_v1) ↦{fullShare} m ((c : Thread nD τ).loc main_v1))) from unscopedRest0_eq c _]
  unfold G' start
  iintro ⟨Hr, Hlev, Hcr, -, HK, Hp, Ht⟩
  imodintro
  isplitl; swap; · iempintro
  isplitl [HK]; · iexact HK
  isplitl [Hlev]; · iexact Hlev
  isplitl [Hcr Hp Ht]
  · iapply (dealt_intro (F := F) c)
    isplitl [Hcr]; · iexact Hcr
    isplitl [Hp] <;> iassumption
  iexists _
  rw [owns_whole]
  iexact Hr

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  show _ ⊢ iprop(start m c ∗ (∃ X, owns (c : Thread nD τ) (Memref.whole cc0_scratch0) fullShare X) ∗ (∃ X, owns (c : Thread nD τ) (Memref.whole cc0_scratch1) fullShare X)
    ∗ (∃ X, owns (c : Thread nD τ) (Memref.whole cc0_scratch2) fullShare X) ∗ (∃ X, owns (c : Thread nD τ) (Memref.whole cc0_scratch3) fullShare X)
    ∗ ∃ X, owns (c : Thread nD τ) (Memref.whole cc0_scratch4) fullShare X)
  simp only [owns_whole]
  iintro ⟨Hs, -, Hr⟩
  isplitl [Hs] <;> iassumption

/-- What device `c` leaves in the result. -/
abbrev result (c : Dev nD) : S2048x1024.Idx → Elt F .bf16 := both (outW m c)

theorem phi1_exit (c : Dev nD) :
    (dats m ρ 0 c).Φ (Fin.last cfg0.N)
      ⊢ iprop((unscopedSems0 c ∗ (((c : Thread nD τ).loc main_v1) ↦{fullShare} (result m c : Buf (Elt F) ((c : Thread nD τ).loc main_v1))))
        ∗ Pipeline.ownSems0 osem c ∗ Pipeline.scopedRest cfg0.spec c) := by
  rw [show (dats m ρ 0 c).Φ (Fin.last cfg0.N) = Φ₁ m c from rfl, scopedRest0_eq, ownSems_eq, barSem_eq]
  unfold Φ₁ blockEnd
  iintro ⟨Hb, ⟨Hzo0, Hzs0, Hzr0, Hm0, Hst0, Ho0, Hr0⟩, Hzo1, Hzs1, Hzr1, Hm1, Hst1, Ho1, Hr1⟩
  ihave Hr := ((half_join c rM (outW m c)).trans (Entails.of_eq (owns_whole (c : Thread nD τ) main_v1 fullShare (result m c)))) $$ [Hr0 Hr1]
  · isplitl [Hr0] <;> iassumption
  ihave Ho := ((half_join c oM (outW m c)).trans (Entails.of_eq (owns_whole (c : Thread nD τ) cc0_scratch0 fullShare (result m c)))) $$ [Ho0 Ho1]
  · isplitl [Ho0] <;> iassumption
  ihave Hm0 := (Entails.of_eq (show (owns (c : Thread nD τ) (myM 0) fullShare (stat m c 0) : sProp 𝕄) = _ from owns_whole (c : Thread nD τ) cc0_scratch1 fullShare (stat m c 0))) $$ Hm0
  ihave Hm1 := (Entails.of_eq (show (owns (c : Thread nD τ) (myM 1) fullShare (stat m c 1) : sProp 𝕄) = _ from owns_whole (c : Thread nD τ) cc0_scratch2 fullShare (stat m c 1))) $$ Hm1
  ihave Hst0 := (Entails.of_eq (show (owns (c : Thread nD τ) (stM 0) fullShare (stats m 0) : sProp 𝕄) = _ from owns_whole (c : Thread nD τ) cc0_scratch3 fullShare (stats m 0))) $$ Hst0
  ihave Hst1 := (Entails.of_eq (show (owns (c : Thread nD τ) (stM 1) fullShare (stats m 1) : sProp 𝕄) = _ from owns_whole (c : Thread nD τ) cc0_scratch4 fullShare (stats m 1))) $$ Hst1
  isplitl [Hb Hr]
  · isplitl [Hb] <;> iassumption
  isplitl [Hzo0 Hzs0 Hzr0 Hzo1 Hzs1 Hzr1]
  · isplitl [Hzo0 Hzo1]
    · isplitl [Hzo0] <;> iassumption
    isplitl [Hzs0 Hzs1]
    · isplitl [Hzs0] <;> iassumption
    isplitl [Hzr0] <;> iassumption
  isplitl [Ho]; · iexists _; iexact Ho
  isplitl [Hm0]; · iexists _; iexact Hm0
  isplitl [Hm1]; · iexists _; iexact Hm1
  isplitl [Hst0]; · iexists _; iexact Hst0
  iexists _; iexact Hst1

theorem waits (c : Dev nD) : (levAts L lv : sProp 𝕄) ⊢ Pipeline.cellsWaits cfgs (dats m ρ) () 0 c :=
  Pipeline.cellsWaits_intro cfgs (dats m ρ) () 0 c fun w s t =>
    mayWait_stage c _ (kind_stage w s) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- At the end: each device's result computed, its argument as it was, every counter at zero. -/
def Done (r : PUnit × MemSt nD τ sig (Elt F)) : Prop :=
  (∀ c : Dev nD, r.2.mem ((c : Thread nD τ).loc main_v1) = result m c ∧ r.2.mem ((c : Thread nD τ).loc main_arg0) = m ((c : Thread nD τ).loc main_arg0))
    ∧ r.2.sem = fun _ => 0

theorem read_result (c : Dev nD) (s' : Phys nD τ sig (Elt F)) :
    iprop((unscopedSems0 c ∗ (((c : Thread nD τ).loc main_v1) ↦{fullShare} (result m c : Buf (Elt F) ((c : Thread nD τ).loc main_v1)))) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_v1) = result m c⌝ ∗ SI s') : sProp 𝕄) := by
  iintro ⟨⟨Hu, Hr⟩, -, HSI⟩
  ihave %h := (SI_pointsTo_agree (st := s') (ℓ := (c : Thread nD τ).loc main_v1) (I := Finset.univ) (q := fullShare) (f := (result m c : Buf (Elt F) ((c : Thread nD τ).loc main_v1)))) $$ [HSI Hr]
  · isplitl [HSI] <;> iassumption
  imod (Pipeline.unscopedSems0_read (X := unscopedSems0 c) (c := c) fupd_intro s') $$ [Hu HSI] with ⟨%h2, HSI⟩
  · isplitl [Hu] <;> iassumption
  imodintro
  isplitr
  · ipureintro; exact ⟨h2, funext fun i => h i (Finset.mem_univ i)⟩
  iexact HSI

set_option maxRecDepth 8000 in
/-- From any memory with zero counters, for any float values: every weakly fair execution on the sixteen devices terminates, and every
    final state is as `Done` says. -/
theorem run_main : θ_run defs (onTc (τ := τ) (main (F := F))) (s₀ m ρ) (Done m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w; exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ (((c : Thread nD τ).loc main_v1) ↦{fullShare} (result m c : Buf (Elt F) ((c : Thread nD τ).loc main_v1)))))
    (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_v1) = result m c)
    (hY := fun c s' => read_result m c s')
    (hQ := fun _ h hs => ⟨fun c => ⟨(h c).2.2.2, ((h c).1 (0 : Fin 1)).trans ((dats (F := F) m ρ 0 c).arrAt_in (0 : Fin 1) rfl _)⟩, sem_eq_zero hs fun c => (h c).2.2.1⟩)

end Cert.SoftmaxKernelIdeal
-- ==== Proof.SoftmaxKernel.lean ====
/-
The kernel's result, element by element: each device's columns of the softmax, from the sums that all devices exchange.
-/
module

public import proofs.«01_k».proof.Proof.KernelIdealLaunch
public import Idealize.ShloMosaic.Lib.Pointwise

@[expose] public section

noncomputable section

namespace Cert.SoftmaxKernelIdeal

open Cert.KernelIdeal Cert.KernelIdeal.Gen
open Idealize.ShloMosaic Idealize.ShloMosaic.TcCoe

/-! ## The body's pure terms at an index -/

theorem exp_first (x : Vec Ideal S1024x1024 .f32) (r l : Fin 1024) : k0_pay3 x (ix2 r l) = Ideal.exp (x (ix2 r l)) := by
  pointwise [k0_pay3, k0_pay1]
theorem exp_second (x : Vec Ideal S1024x1024 .f32) (r l : Fin 1024) : k0_pay8 x (ix2 r l) = Ideal.exp (x (ix2 r l)) := by
  pointwise [k0_pay8, k0_pay6]
theorem sums_first (x : Vec Ideal S1024x1024 .f32) (p : Fin 8) (q : Fin 128) :
    k0_pay4 x (ix2 p q) = ∑ k : Fin 1024, Ideal.exp (x (ix2 ⟨p.val * 128 + q.val, by omega⟩ k)) := by
  pointwise [k0_pay4, k0_pay2, k0_pay1]
theorem sums_second (x : Vec Ideal S1024x1024 .f32) (p : Fin 8) (q : Fin 128) :
    k0_pay9 (k0_pay7 x) (ix2 p q) = ∑ k : Fin 1024, Ideal.exp (x (ix2 ⟨p.val * 128 + q.val, by omega⟩ k)) := by
  pointwise [k0_pay9, k0_pay7, k0_pay6]
theorem scaled_first (st : Vec Ideal S16x8x128 .f32) (e : Vec Ideal S1024x1024 .bf16) (r l : Fin 1024) :
    k0_pay11 st e (ix2 r l) = e (ix2 r l) * Ideal.div 1 (∑ d : Fin 16, st (ix3 d ⟨r.val / 128, by omega⟩ ⟨r.val % 128, by omega⟩)) := by
  pointwise [k0_pay11]
theorem scaled_second (st : Vec Ideal S16x8x128 .f32) (e : Vec Ideal S1024x1024 .bf16) (r l : Fin 1024) :
    k0_pay12 st e (ix2 r l) = e (ix2 r l) * Ideal.div 1 (∑ d : Fin 16, st (ix3 d ⟨r.val / 128, by omega⟩ ⟨r.val % 128, by omega⟩)) := by
  pointwise [k0_pay12]

/-! ## A device's result -/

variable (m : (ℓ : Loc nD τ sig) → Buf (Elt Ideal) ℓ)

/-- Device `c`'s columns of the input, as real numbers extended. -/
def cols (c : Dev nD) : (⟨2, ![2048, 1024]⟩ : Shape).Idx → EReal := m ((c : Thread nD τ).loc main_arg0)

theorem xAll_eq (c : Dev nD) : xAll m c = cols m c := by
  funext j
  idx_vars j
  unfold xAll cols
  refine congrArg (m ((c : Thread nD τ).loc main_arg0)) (funext fun a => Fin.ext ?_)
  fin_cases a
  · show 0 * 2048 + 1 * j0.val = j0.val; omega
  · show 0 * 1024 + 1 * j1.val = j1.val; omega

/-- Row `r` of block `b` is a row of the whole. -/
def rowOf (b : Fin 2) (r : Fin 1024) : Fin 2048 := ⟨1024 * b.val + r.val, by omega⟩

theorem xIn_at (c : Dev nD) (b : Fin 2) (r l : Fin 1024) : xIn m c b (ix2 r l) = cols m c (ix2 (rowOf b r) l) := by
  unfold xIn
  rw [xAll_eq]
  refine congrArg (cols m c) (funext fun a => Fin.ext ?_)
  fin_cases a
  · show 1024 * b.val + 1 * r.val = 1024 * b.val + r.val; omega
  · show 0 + 1 * l.val = l.val; omega

theorem expo_at (c : Dev nD) (b : Fin 2) (r l : Fin 1024) : expo m c b (ix2 r l) = Ideal.exp (cols m c (ix2 (rowOf b r) l)) := by
  unfold expo
  rw [← xIn_at]
  fin_cases b
  · exact exp_first _ r l
  · exact exp_second _ r l

theorem stat_at (c : Dev nD) (b : Fin 2) (r : Fin 1024) :
    stat m c b (ix2 ⟨r.val / 128, by omega⟩ ⟨r.val % 128, by omega⟩) = ∑ k : Fin 1024, Ideal.exp (cols m c (ix2 (rowOf b r) k)) := by
  have hr : (⟨r.val / 128 * 128 + r.val % 128, by omega⟩ : Fin 1024) = r := Fin.ext (by show r.val / 128 * 128 + r.val % 128 = r.val; omega)
  simp only [← xIn_at]
  unfold stat
  fin_cases b
  · refine (sums_first _ _ _).trans ?_; simp only [hr]; rfl
  · refine (sums_second _ _ _).trans ?_; simp only [hr]; rfl

theorem outW_at (c : Dev nD) (b : Fin 2) (r l : Fin 1024) :
    outW m c b (ix2 r l) = Ideal.exp (cols m c (ix2 (rowOf b r) l)) * Ideal.div 1 (∑ d : Dev nD, ∑ k : Fin 1024, Ideal.exp (cols m d (ix2 (rowOf b r) k))) := by
  have hs : ∀ d : Fin 16, stats m b (ix3 d ⟨r.val / 128, by omega⟩ ⟨r.val % 128, by omega⟩) = ∑ k : Fin 1024, Ideal.exp (cols m d (ix2 (rowOf b r) k)) := fun d => by
    rw [← stat_at]
    refine congrArg (stat m d b) (funext fun a => ?_)
    fin_cases a <;> rfl
  rw [← expo_at, ← Finset.sum_congr rfl fun d _ => hs d]
  unfold outW
  fin_cases b
  · exact scaled_first _ _ r l
  · exact scaled_second _ _ r l

/-- Device `c`'s result at row `r` and its own column `l`. -/
theorem result_at (c : Dev nD) (r : Fin 2048) (l : Fin 1024) :
    result m c (ix2 r l) = Ideal.exp (cols m c (ix2 r l)) * Ideal.div 1 (∑ d : Dev nD, ∑ k : Fin 1024, Ideal.exp (cols m d (ix2 r k))) := by
  have e := outW_at m c ⟨r.val / 1024, by omega⟩ ⟨r.val % 1024, by omega⟩ l
  have hr : rowOf ⟨r.val / 1024, by omega⟩ ⟨r.val % 1024, by omega⟩ = r := Fin.ext (by show 1024 * (r.val / 1024) + r.val % 1024 = r.val; omega)
  rw [hr] at e
  exact e

end Cert.SoftmaxKernelIdeal

end
-- ==== Proof.SoftmaxReal.lean ====
/-
The softmax of real numbers, read over the extended reals: with the maximum taken away first, and without.
-/
module

public import Idealize.ShloMosaic.PureOps.Ideal.Laws

@[expose] public section

noncomputable section

namespace Cert.SoftmaxReal

open Idealize.ShloMosaic

variable {ι : Type} [Fintype ι]

theorem coe_sum (s : Finset ι) (f : ι → ℝ) : ∑ i ∈ s, (f i : EReal) = ((∑ i ∈ s, f i : ℝ) : EReal) := by
  classical
  induction s using Finset.induction_on with
  | empty => rw [Finset.sum_empty, Finset.sum_empty, EReal.coe_zero]
  | insert a s h ih => rw [Finset.sum_insert h, Finset.sum_insert h, ih, EReal.coe_add]

/-- The greatest of a row of real numbers is a real number. -/
theorem greatest_real [Nonempty ι] (y : ι → ℝ) : ∃ g : ℝ, Finset.univ.fold max (⊥ : EReal) (fun k => (y k : EReal)) = (g : EReal) := by
  have hb : Finset.univ.fold max (⊥ : EReal) (fun k => (y k : EReal)) ≠ ⊥ := fun e =>
    absurd ((Finset.lt_fold_max (c := (⊥ : EReal))).mpr (Or.inr ⟨Classical.arbitrary ι, Finset.mem_univ _, EReal.bot_lt_coe _⟩)) (by rw [e]; exact lt_irrefl _)
  have ht : Finset.univ.fold max (⊥ : EReal) (fun k => (y k : EReal)) ≠ ⊤ := fun e =>
    absurd ((Finset.fold_max_lt (c := (⊤ : EReal))).mpr ⟨bot_lt_top, fun k _ => EReal.coe_lt_top (y k)⟩) (by rw [e]; exact lt_irrefl _)
  exact ⟨_, (EReal.coe_toReal ht hb).symm⟩

theorem exps_pos [Nonempty ι] (y : ι → ℝ) : 0 < ∑ k, Real.exp (y k) :=
  Finset.sum_pos (fun k _ => Real.exp_pos _) Finset.univ_nonempty

theorem sum_exps (y : ι → ℝ) : ∑ k, Ideal.exp (y k : EReal) = ((∑ k, Real.exp (y k) : ℝ) : EReal) := by
  rw [← coe_sum]; rfl

/-- Taking any real number from a whole row first leaves its softmax as it is; the quotient is then a product with the sum's reciprocal. -/
theorem softmax_shift [Nonempty ι] (y : ι → ℝ) (g : ℝ) (i : ι) :
    Ideal.div (Ideal.exp ((y i : EReal) - (g : EReal))) (∑ k, Ideal.exp ((y k : EReal) - (g : EReal)))
      = Ideal.exp (y i : EReal) * Ideal.div 1 (∑ k, Ideal.exp (y k : EReal)) := by
  simp only [← EReal.coe_sub]
  rw [sum_exps (fun k => y k - g), sum_exps y, Ideal.div_coe (exps_pos _).ne', Ideal.div_coe (exps_pos _).ne', one_mul, Ideal.exp_coe, Ideal.exp_coe, ← EReal.coe_mul, ← EReal.coe_mul]
  refine congrArg _ ?_
  have hs := (exps_pos y).ne'
  have hg := (Real.exp_pos g).ne'
  simp only [Real.exp_sub, ← Finset.sum_div]
  field_simp

end Cert.SoftmaxReal

end
-- ==== Proof.SoftmaxReference.lean ====
/-
The reference's result, element by element, on one device holding the whole array.
-/
module

public import proofs.«01_k».proof.Proof.Gen.ReferenceIdeal.Run
public import proofs.«01_k».proof.Proof.SoftmaxReal
public import Idealize.ShloMosaic.Lib.Pointwise

@[expose] public section

noncomputable section

namespace Cert.SoftmaxReference

open Cert.ReferenceIdeal Cert.ReferenceIdeal.Gen
open Idealize.ShloMosaic Idealize.ShloMosaic.TcCoe Idealize.SL.Sem

/-- A number to each row, spread along the row. -/
abbrev along (v : FVec Ideal S2048 .f32) : FVec Ideal S2048x16384 .f32 :=
  broadcastInDim S2048x16384 ![0, 1] bcast_S2048x1_S2048x16384_0_1 (broadcastInDim S2048x1 ![0] bcast_S2048_S2048x1_0 v)
/-- The exponentials, each row's greatest taken away first. -/
abbrev exps (X : FVec Ideal S2048x16384 .f32) : FVec Ideal S2048x16384 .f32 :=
  Host.exp (subf X (along (Host.reduce FloatOps.maximumf X (constant S_ .f32 0xFF800000#32) reducesTo_S2048x16384_S2048_d1 h_S_)))
/-- What the reference computes of the whole array. -/
abbrev softmax (X : FVec Ideal S2048x16384 .f32) : FVec Ideal S2048x16384 .bf16 :=
  truncf .bf16 (Host.divf (exps X) (along (Host.reduceAdd (exps X) (constant S_ .f32 0x00000000#32) reducesTo_S2048x16384_S2048_d1 h_S_))) bitsLt_bf16_f32

theorem run_softmax (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = softmax (m ((c.tc : Thread nD τ).loc main_arg0))
      ∧ r.2.mem ((c.tc : Thread nD τ).loc main_arg0) = m ((c.tc : Thread nD τ).loc main_arg0) := Cert.ReferenceIdeal.Value.run m ρ

/-- The program has no semaphore. -/
theorem no_sems (s : GSem nD τ sig) : False := by
  rcases s with ⟨c, i | i⟩
  · exact i.elim0
  · exact i.elim0

theorem minus_infinity : Ideal.ofBits .f32 0xFF800000#32 = ⊥ := by simp [Ideal.ofBits, Ideal.ieee]

/-- The reference at row `r` and column `l`, on a row of real numbers: the exponential, times the reciprocal of the row's sum of them. -/
theorem softmax_at (X : FVec Ideal S2048x16384 .f32) (r : Fin 2048) (y : Fin 16384 → ℝ) (h : ∀ k, X (ix2 r k) = (y k : EReal)) (l : Fin 16384) :
    softmax X (ix2 r l) = Ideal.exp (X (ix2 r l)) * Ideal.div 1 (∑ k : Fin 16384, Ideal.exp (X (ix2 r k))) := by
  obtain ⟨g, hg⟩ := SoftmaxReal.greatest_real y
  have e := SoftmaxReal.softmax_shift y g l
  pointwise [softmax]
  simp only [minus_infinity, h, hg]
  exact e

end Cert.SoftmaxReference

end
-- ==== Proof.SoftmaxAgree.lean ====
/-
Each device's result is its block of the reference's: a row's sum over all columns is the sum, over the devices, of each device's sum.
-/
module

public import proofs.«01_k».proof.Defs
public import proofs.«01_k».proof.Proof.Gen.Pre_finite_KernelIdeal
public import proofs.«01_k».proof.Proof.SoftmaxKernel
public import proofs.«01_k».proof.Proof.SoftmaxReference

@[expose] public section

noncomputable section

namespace Cert.SoftmaxAgree

open Idealize.ShloMosaic Idealize.ShloMosaic.TcCoe
open Cert.SoftmaxKernelIdeal Cert.SoftmaxReference

/-- One device's columns, and the whole array. -/
abbrev Part : Shape := ⟨2, ![2048, 1024]⟩
abbrev Whole : Shape := ⟨2, ![2048, 16384]⟩

/-- Column `l` of device `c`, among all columns. -/
def col (c : Fin 16) (l : Fin 1024) : Fin 16384 := ⟨c.val * 1024 + l.val, by omega⟩

theorem block_at {α : Type} (c : Fin 16) (v : Whole.Idx → α) (r : Fin 2048) (l : Fin 1024) :
    Layout.block Part Whole 1 16 c v (by decide) (ix2 r l) = v (ix2 r (col c l)) := by
  refine congrArg v (funext fun a => Fin.ext ?_)
  fin_cases a <;> rfl

/-- A sum over all columns, device by device. -/
theorem sum_cols (f : Fin 16384 → EReal) : ∑ k, f k = ∑ d : Fin 16, ∑ l : Fin 1024, f (col d l) := by
  rw [← Fintype.sum_prod_type' fun d l => f (col d l)]
  refine (Fintype.sum_bijective (fun x : Fin 16 × Fin 1024 => col x.1 x.2) ⟨?_, ?_⟩ _ _ fun _ => rfl).symm
  · rintro ⟨d, l⟩ ⟨d', l'⟩ h
    have e : d.val * 1024 + l.val = d'.val * 1024 + l'.val := congrArg Fin.val h
    exact Prod.ext (Fin.ext (by show d.val = d'.val; omega)) (Fin.ext (by show l.val = l'.val; omega))
  · intro k
    exact ⟨(⟨k.val / 1024, by omega⟩, ⟨k.val % 1024, by omega⟩), Fin.ext (by show k.val / 1024 * 1024 + k.val % 1024 = k.val; omega)⟩

/-- What the precondition says of an element: it is a real number. -/
theorem real_of_finite (x : FVec Ideal Part .f32) (h : Cert.Pre_finite_KernelIdeal.fn x = fun _ => 1#1) (j : Part.Idx) : ∃ y : ℝ, x j = (y : EReal) := by
  have e := congrFun h j
  pointwise [Cert.Pre_finite_KernelIdeal.fn] at e
  rw [show Ideal.ofBits .f32 2139095040#32 = ⊤ by simp [Ideal.ofBits, Ideal.ieee], Ideal.absf_def] at e
  have hlt : max (x j : EReal) (-(x j : EReal)) < ⊤ := by
    by_contra hn
    rw [decide_eq_false hn] at e
    exact absurd e (by decide)
  rw [max_lt_iff] at hlt
  have ht : (x j : EReal) ≠ ⊤ := hlt.1.ne
  have hb : (x j : EReal) ≠ ⊥ := fun h0 => hlt.2.ne (by rw [h0]; rfl)
  exact ⟨_, (EReal.coe_toReal ht hb).symm⟩

/-- From blocks of real numbers, every device ends with its block of the softmax of the whole. -/
theorem result_block (m : (ℓ : Loc Cert.KernelIdeal.nD Cert.KernelIdeal.τ Cert.KernelIdeal.sig) → Buf (Elt Ideal) ℓ) (X : FVec Ideal Whole .f32)
    (hfin : ∀ c j, ∃ y : ℝ, cols m c j = (y : EReal)) (hX : ∀ c, cols m c = Layout.block Part Whole 1 16 c X) (c : Fin 16) :
    (result m c : Part.Idx → EReal) = Layout.block Part Whole 1 16 c (softmax X) := by
  have hcol : ∀ (d : Fin 16) (r : Fin 2048) (l : Fin 1024), X (ix2 r (col d l)) = cols m d (ix2 r l) := fun d r l => by
    rw [hX d]; exact (block_at d X r l).symm
  funext j
  idx_vars j
  have hreal : ∀ k : Fin 16384, ∃ y : ℝ, X (ix2 j0 k) = (y : EReal) := fun k => by
    have e := hcol ⟨k.val / 1024, by omega⟩ j0 ⟨k.val % 1024, by omega⟩
    rw [show col ⟨k.val / 1024, by omega⟩ ⟨k.val % 1024, by omega⟩ = k from Fin.ext (by show k.val / 1024 * 1024 + k.val % 1024 = k.val; omega)] at e
    rw [e]; exact hfin _ _
  choose y hy using hreal
  refine (result_at m c j0 j1).trans ?_
  rw [block_at]
  refine Eq.trans ?_ (softmax_at X j0 y hy (col c j1)).symm
  rw [hcol, sum_cols]
  simp only [hcol]

end Cert.SoftmaxAgree

end
-- ==== Proof.lean ====
/-
The proof of `Cert.Claim`: a softmax over columns dealt to sixteen devices, against the softmax of the whole array on one.

Proof/Kernel….lean and Proof/KernelIdeal….lean are the run of the kernel on the mesh, for any float values (Phases the body in stretches,
Protocol the counters and what each hands over, Walks and Stretches the rules, Body one device, Launch all of them). Proof/Softmax….lean are the values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.KernelLaunch
public import proofs.«01_k».proof.Proof.SoftmaxAgree
public import Idealize.ShloMosaic.Adequacy
public import Idealize.ShloMosaic.Init

@[expose] public section

noncomputable section

namespace Cert.Proof

open Idealize.ShloMosaic Idealize.ShloMosaic.TcCoe Idealize.SL.Sem

theorem frame_Kernel : Cert.quiescent_Kernel := fun m g _ =>
  (θ_run _ _ _).mono (fun _ h => ⟨fun c => (h.1 c).2, h.2⟩) (Cert.SoftmaxKernel.run_main (F := Bits) m g)

/-- The kernel over the extended reals, from any memory. -/
theorem frame_KernelIdeal : Cert.quiescent_KernelIdeal := fun m g _ =>
  (θ_run _ _ _).mono (fun _ h => ⟨fun c => (h.1 c).2, h.2⟩) (Cert.SoftmaxKernelIdeal.run_main (F := Ideal) m g)

theorem frame_ReferenceIdeal : Cert.quiescent_ReferenceIdeal := fun m g _ =>
  (θ_run _ _ _).mono (fun _ h => ⟨fun c => (h c).2, funext fun s => (Cert.SoftmaxReference.no_sems s).elim⟩) (Cert.SoftmaxReference.run_softmax m g)

/-- Every device ends with its block of the reference's result. -/
theorem agree : Cert.algebraic_KernelIdeal_ReferenceIdeal_pre_finite_KernelIdeal := by
  intro m g m' g' hpre hblk
  refine ⟨Cert.SoftmaxReference.softmax (m' (((0 : Dev Cert.ReferenceIdeal.nD).tc : Thread Cert.ReferenceIdeal.nD Cert.ReferenceIdeal.τ).loc Cert.ReferenceIdeal.main_arg0)),
    (θ_run _ _ _).mono (fun _ h c => ⟨(h.1 c).1.trans ?_, (h.1 c).2⟩) (Cert.SoftmaxKernelIdeal.run_main (F := Ideal) m g),
    (θ_run _ _ _).mono (fun _ h => h 0) (Cert.SoftmaxReference.run_softmax m' g')⟩
  exact Cert.SoftmaxAgree.result_block m _ (fun d j => Cert.SoftmaxAgree.real_of_finite _ (hpre d) j) hblk c

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_Kernel, frame_KernelIdeal, fun m g _ => frame_KernelIdeal m g (by trivial), frame_ReferenceIdeal, fun m g _ => frame_ReferenceIdeal m g (by trivial),
    trivial, agree⟩

end Cert.Proof

end
